-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "eps2" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S1024 : Shape := ⟨1, ![1024]⟩
abbrev S100000x300 : Shape := ⟨2, ![100000, 300]⟩
abbrev S100000 : Shape := ⟨1, ![100000]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S1024 32) (main_arg1 : FVec F S100000x300 .f32) (main_arg2 : FVec F S100000x300 .f32) (main_arg3 : FVec F S100000 .f32) : IVec S_ 1 :=
  let main_c : IVec S_ 32 := constantI S_ 32 0#32
  let main_v0 : IVec S1024 32 := broadcastInDim S1024 ![] bcast_S_S1024 main_c
  let main_v1 : IVec S1024 1 := cmpi .sge main_arg0 main_v0
  let main_c_0 : IVec S_ 32 := constantI S_ 32 100000#32
  let main_v2 : IVec S1024 32 := broadcastInDim S1024 ![] bcast_S_S1024 main_c_0
  let main_v3 : IVec S1024 1 := cmpi .slt main_arg0 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024 : Shape := ⟨1, ![1024]⟩
abbrev S100000x300 : Shape := ⟨2, ![100000, 300]⟩
abbrev S100000 : Shape := ⟨1, ![100000]⟩
abbrev S100000x1x300 : Shape := ⟨3, ![100000, 1, 300]⟩
abbrev S1024x300 : Shape := ⟨2, ![1024, 300]⟩
abbrev S1x1x300 : Shape := ⟨3, ![1, 1, 300]⟩
abbrev S1 : Shape := ⟨1, ![1]⟩
abbrev S64x300 : Shape := ⟨2, ![64, 300]⟩
abbrev S1x300 : Shape := ⟨2, ![1, 300]⟩
abbrev S64 : Shape := ⟨1, ![64]⟩
abbrev S64x1 : Shape := ⟨2, ![64, 1]⟩
abbrev S1024x100000 : Shape := ⟨2, ![1024, 100000]⟩
abbrev S2048x300 : Shape := ⟨2, ![2048, 300]⟩
abbrev S2048 : Shape := ⟨1, ![2048]⟩
abbrev S1024x2048 : Shape := ⟨2, ![1024, 2048]⟩
abbrev S1x2048 : Shape := ⟨2, ![1, 2048]⟩

abbrev nBuf : Space → Nat
  | .hbm => 6
  | .vmem => 137
  | .smem => 1
  | _ => 0

abbrev vmemTy0_0 (i : Nat) : BufTy := match i % 128 with
  | 0 => ⟨S1x1x300, .f32⟩
  | 1 => ⟨S1x1x300, .f32⟩
  | 2 => ⟨S1x1x300, .f32⟩
  | 3 => ⟨S1x1x300, .f32⟩
  | 4 => ⟨S1x1x300, .f32⟩
  | 5 => ⟨S1x1x300, .f32⟩
  | 6 => ⟨S1x1x300, .f32⟩
  | 7 => ⟨S1x1x300, .f32⟩
  | 8 => ⟨S1x1x300, .f32⟩
  | 9 => ⟨S1x1x300, .f32⟩
  | 10 => ⟨S1x1x300, .f32⟩
  | 11 => ⟨S1x1x300, .f32⟩
  | 12 => ⟨S1x1x300, .f32⟩
  | 13 => ⟨S1x1x300, .f32⟩
  | 14 => ⟨S1x1x300, .f32⟩
  | 15 => ⟨S1x1x300, .f32⟩
  | 16 => ⟨S1x1x300, .f32⟩
  | 17 => ⟨S1x1x300, .f32⟩
  | 18 => ⟨S1x1x300, .f32⟩
  | 19 => ⟨S1x1x300, .f32⟩
  | 20 => ⟨S1x1x300, .f32⟩
  | 21 => ⟨S1x1x300, .f32⟩
  | 22 => ⟨S1x1x300, .f32⟩
  | 23 => ⟨S1x1x300, .f32⟩
  | 24 => ⟨S1x1x300, .f32⟩
  | 25 => ⟨S1x1x300, .f32⟩
  | 26 => ⟨S1x1x300, .f32⟩
  | 27 => ⟨S1x1x300, .f32⟩
  | 28 => ⟨S1x1x300, .f32⟩
  | 29 => ⟨S1x1x300, .f32⟩
  | 30 => ⟨S1x1x300, .f32⟩
  | 31 => ⟨S1x1x300, .f32⟩
  | 32 => ⟨S1x1x300, .f32⟩
  | 33 => ⟨S1x1x300, .f32⟩
  | 34 => ⟨S1x1x300, .f32⟩
  | 35 => ⟨S1x1x300, .f32⟩
  | 36 => ⟨S1x1x300, .f32⟩
  | 37 => ⟨S1x1x300, .f32⟩
  | 38 => ⟨S1x1x300, .f32⟩
  | 39 => ⟨S1x1x300, .f32⟩
  | 40 => ⟨S1x1x300, .f32⟩
  | 41 => ⟨S1x1x300, .f32⟩
  | 42 => ⟨S1x1x300, .f32⟩
  | 43 => ⟨S1x1x300, .f32⟩
  | 44 => ⟨S1x1x300, .f32⟩
  | 45 => ⟨S1x1x300, .f32⟩
  | 46 => ⟨S1x1x300, .f32⟩
  | 47 => ⟨S1x1x300, .f32⟩
  | 48 => ⟨S1x1x300, .f32⟩
  | 49 => ⟨S1x1x300, .f32⟩
  | 50 => ⟨S1x1x300, .f32⟩
  | 51 => ⟨S1x1x300, .f32⟩
  | 52 => ⟨S1x1x300, .f32⟩
  | 53 => ⟨S1x1x300, .f32⟩
  | 54 => ⟨S1x1x300, .f32⟩
  | 55 => ⟨S1x1x300, .f32⟩
  | 56 => ⟨S1x1x300, .f32⟩
  | 57 => ⟨S1x1x300, .f32⟩
  | 58 => ⟨S1x1x300, .f32⟩
  | 59 => ⟨S1x1x300, .f32⟩
  | 60 => ⟨S1x1x300, .f32⟩
  | 61 => ⟨S1x1x300, .f32⟩
  | 62 => ⟨S1x1x300, .f32⟩
  | 63 => ⟨S1x1x300, .f32⟩
  | 64 => ⟨S1x1x300, .f32⟩
  | 65 => ⟨S1x1x300, .f32⟩
  | 66 => ⟨S1x1x300, .f32⟩
  | 67 => ⟨S1x1x300, .f32⟩
  | 68 => ⟨S1x1x300, .f32⟩
  | 69 => ⟨S1x1x300, .f32⟩
  | 70 => ⟨S1x1x300, .f32⟩
  | 71 => ⟨S1x1x300, .f32⟩
  | 72 => ⟨S1x1x300, .f32⟩
  | 73 => ⟨S1x1x300, .f32⟩
  | 74 => ⟨S1x1x300, .f32⟩
  | 75 => ⟨S1x1x300, .f32⟩
  | 76 => ⟨S1x1x300, .f32⟩
  | 77 => ⟨S1x1x300, .f32⟩
  | 78 => ⟨S1x1x300, .f32⟩
  | 79 => ⟨S1x1x300, .f32⟩
  | 80 => ⟨S1x1x300, .f32⟩
  | 81 => ⟨S1x1x300, .f32⟩
  | 82 => ⟨S1x1x300, .f32⟩
  | 83 => ⟨S1x1x300, .f32⟩
  | 84 => ⟨S1x1x300, .f32⟩
  | 85 => ⟨S1x1x300, .f32⟩
  | 86 => ⟨S1x1x300, .f32⟩
  | 87 => ⟨S1x1x300, .f32⟩
  | 88 => ⟨S1x1x300, .f32⟩
  | 89 => ⟨S1x1x300, .f32⟩
  | 90 => ⟨S1x1x300, .f32⟩
  | 91 => ⟨S1x1x300, .f32⟩
  | 92 => ⟨S1x1x300, .f32⟩
  | 93 => ⟨S1x1x300, .f32⟩
  | 94 => ⟨S1x1x300, .f32⟩
  | 95 => ⟨S1x1x300, .f32⟩
  | 96 => ⟨S1x1x300, .f32⟩
  | 97 => ⟨S1x1x300, .f32⟩
  | 98 => ⟨S1x1x300, .f32⟩
  | 99 => ⟨S1x1x300, .f32⟩
  | 100 => ⟨S1x1x300, .f32⟩
  | 101 => ⟨S1x1x300, .f32⟩
  | 102 => ⟨S1x1x300, .f32⟩
  | 103 => ⟨S1x1x300, .f32⟩
  | 104 => ⟨S1x1x300, .f32⟩
  | 105 => ⟨S1x1x300, .f32⟩
  | 106 => ⟨S1x1x300, .f32⟩
  | 107 => ⟨S1x1x300, .f32⟩
  | 108 => ⟨S1x1x300, .f32⟩
  | 109 => ⟨S1x1x300, .f32⟩
  | 110 => ⟨S1x1x300, .f32⟩
  | 111 => ⟨S1x1x300, .f32⟩
  | 112 => ⟨S1x1x300, .f32⟩
  | 113 => ⟨S1x1x300, .f32⟩
  | 114 => ⟨S1x1x300, .f32⟩
  | 115 => ⟨S1x1x300, .f32⟩
  | 116 => ⟨S1x1x300, .f32⟩
  | 117 => ⟨S1x1x300, .f32⟩
  | 118 => ⟨S1x1x300, .f32⟩
  | 119 => ⟨S1x1x300, .f32⟩
  | 120 => ⟨S1x1x300, .f32⟩
  | 121 => ⟨S1x1x300, .f32⟩
  | 122 => ⟨S1x1x300, .f32⟩
  | 123 => ⟨S1x1x300, .f32⟩
  | 124 => ⟨S1x1x300, .f32⟩
  | 125 => ⟨S1x1x300, .f32⟩
  | 126 => ⟨S1x1x300, .f32⟩
  | 127 => ⟨S1x1x300, .f32⟩
  | _ => ⟨S100000x300, .f32⟩

abbrev vmemTy0_1 (i : Nat) : BufTy := match i % 128 with
  | 0 => ⟨S64x300, .bf16⟩
  | 1 => ⟨S64x300, .bf16⟩
  | 2 => ⟨S1024x300, .bf16⟩
  | 3 => ⟨S2048x300, .f32⟩
  | 4 => ⟨S2048x300, .f32⟩
  | 5 => ⟨S2048, .f32⟩
  | 6 => ⟨S2048, .f32⟩
  | 7 => ⟨S1024x2048, .f32⟩
  | 8 => ⟨S1024x2048, .f32⟩
  | _ => ⟨S100000x300, .f32⟩

abbrev vmemTy (i : Nat) : BufTy := match i / 128 with
  | 0 => vmemTy0_0 i
  | 1 => vmemTy0_1 i
  | _ => ⟨S100000x300, .f32⟩

abbrev bufTy : (tb : Table) → Fin (tcTables nBuf tb) → BufTy
  | .hbm, ⟨0, _⟩ => ⟨S100000x300, .f32⟩
  | .hbm, ⟨1, _⟩ => ⟨S100000x300, .f32⟩
  | .hbm, ⟨2, _⟩ => ⟨S100000, .f32⟩
  | .hbm, ⟨3, _⟩ => ⟨S100000x1x300, .f32⟩
  | .hbm, ⟨4, _⟩ => ⟨S1024x300, .bf16⟩
  | .hbm, ⟨5, _⟩ => ⟨S1024x100000, .f32⟩
  | .local _ .vmem, ⟨i, _⟩ => vmemTy i
  | .local _ .smem, ⟨0, _⟩ => ⟨S1024, .i32⟩
  | _, _ => ⟨S100000x300, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 137 → Bool
  | ⟨i, _⟩ => dmaSemScopedAt i

abbrev sig : RefSig :=
  ofTc nBuf bufTy 0 137 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_stg37_0 : Ref sig .tc := ⟨.vmem, 74, rfl⟩
abbrev cc0_stg37_1 : Ref sig .tc := ⟨.vmem, 75, rfl⟩
abbrev cc0_stg38_0 : Ref sig .tc := ⟨.vmem, 76, rfl⟩
abbrev cc0_stg38_1 : Ref sig .tc := ⟨.vmem, 77, rfl⟩
abbrev cc0_stg39_0 : Ref sig .tc := ⟨.vmem, 78, rfl⟩
abbrev cc0_stg39_1 : Ref sig .tc := ⟨.vmem, 79, rfl⟩
abbrev cc0_stg40_0 : Ref sig .tc := ⟨.vmem, 80, rfl⟩
abbrev cc0_stg40_1 : Ref sig .tc := ⟨.vmem, 81, rfl⟩
abbrev cc0_stg41_0 : Ref sig .tc := ⟨.vmem, 82, rfl⟩
abbrev cc0_stg41_1 : Ref sig .tc := ⟨.vmem, 83, rfl⟩
abbrev cc0_stg42_0 : Ref sig .tc := ⟨.vmem, 84, rfl⟩
abbrev cc0_stg42_1 : Ref sig .tc := ⟨.vmem, 85, rfl⟩
abbrev cc0_stg43_0 : Ref sig .tc := ⟨.vmem, 86, rfl⟩
abbrev cc0_stg43_1 : Ref sig .tc := ⟨.vmem, 87, rfl⟩
abbrev cc0_stg44_0 : Ref sig .tc := ⟨.vmem, 88, rfl⟩
abbrev cc0_stg44_1 : Ref sig .tc := ⟨.vmem, 89, rfl⟩
abbrev cc0_stg45_0 : Ref sig .tc := ⟨.vmem, 90, rfl⟩
abbrev cc0_stg45_1 : Ref sig .tc := ⟨.vmem, 91, rfl⟩
abbrev cc0_stg46_0 : Ref sig .tc := ⟨.vmem, 92, rfl⟩
abbrev cc0_stg46_1 : Ref sig .tc := ⟨.vmem, 93, rfl⟩
abbrev cc0_stg47_0 : Ref sig .tc := ⟨.vmem, 94, rfl⟩
abbrev cc0_stg47_1 : Ref sig .tc := ⟨.vmem, 95, rfl⟩
abbrev cc0_stg48_0 : Ref sig .tc := ⟨.vmem, 96, rfl⟩
abbrev cc0_stg48_1 : Ref sig .tc := ⟨.vmem, 97, rfl⟩
abbrev cc0_stg49_0 : Ref sig .tc := ⟨.vmem, 98, rfl⟩
abbrev cc0_stg49_1 : Ref sig .tc := ⟨.vmem, 99, rfl⟩
abbrev cc0_stg50_0 : Ref sig .tc := ⟨.vmem, 100, rfl⟩
abbrev cc0_stg50_1 : Ref sig .tc := ⟨.vmem, 101, rfl⟩
abbrev cc0_stg51_0 : Ref sig .tc := ⟨.vmem, 102, rfl⟩
abbrev cc0_stg51_1 : Ref sig .tc := ⟨.vmem, 103, rfl⟩
abbrev cc0_stg52_0 : Ref sig .tc := ⟨.vmem, 104, rfl⟩
abbrev cc0_stg52_1 : Ref sig .tc := ⟨.vmem, 105, rfl⟩
abbrev cc0_stg53_0 : Ref sig .tc := ⟨.vmem, 106, rfl⟩
abbrev cc0_stg53_1 : Ref sig .tc := ⟨.vmem, 107, rfl⟩
abbrev cc0_stg54_0 : Ref sig .tc := ⟨.vmem, 108, rfl⟩
abbrev cc0_stg54_1 : Ref sig .tc := ⟨.vmem, 109, rfl⟩
abbrev cc0_stg55_0 : Ref sig .tc := ⟨.vmem, 110, rfl⟩
abbrev cc0_stg55_1 : Ref sig .tc := ⟨.vmem, 111, rfl⟩
abbrev cc0_stg56_0 : Ref sig .tc := ⟨.vmem, 112, rfl⟩
abbrev cc0_stg56_1 : Ref sig .tc := ⟨.vmem, 113, rfl⟩
abbrev cc0_stg57_0 : Ref sig .tc := ⟨.vmem, 114, rfl⟩
abbrev cc0_stg57_1 : Ref sig .tc := ⟨.vmem, 115, rfl⟩
abbrev cc0_stg58_0 : Ref sig .tc := ⟨.vmem, 116, rfl⟩
abbrev cc0_stg58_1 : Ref sig .tc := ⟨.vmem, 117, rfl⟩
abbrev cc0_stg59_0 : Ref sig .tc := ⟨.vmem, 118, rfl⟩
abbrev cc0_stg59_1 : Ref sig .tc := ⟨.vmem, 119, rfl⟩
abbrev cc0_stg60_0 : Ref sig .tc := ⟨.vmem, 120, rfl⟩
abbrev cc0_stg60_1 : Ref sig .tc := ⟨.vmem, 121, rfl⟩
abbrev cc0_stg61_0 : Ref sig .tc := ⟨.vmem, 122, rfl⟩
abbrev cc0_stg61_1 : Ref sig .tc := ⟨.vmem, 123, rfl⟩
abbrev cc0_stg62_0 : Ref sig .tc := ⟨.vmem, 124, rfl⟩
abbrev cc0_stg62_1 : Ref sig .tc := ⟨.vmem, 125, rfl⟩
abbrev cc0_stg63_0 : Ref sig .tc := ⟨.vmem, 126, rfl⟩
abbrev cc0_stg63_1 : Ref sig .tc := ⟨.vmem, 127, rfl⟩
abbrev cc0_stg64_0 : Ref sig .tc := ⟨.vmem, 128, rfl⟩
abbrev cc0_stg64_1 : Ref sig .tc := ⟨.vmem, 129, rfl⟩
abbrev cc1_stg0_0 : Ref sig .tc := ⟨.vmem, 130, rfl⟩
abbrev cc1_stg1_0 : Ref sig .tc := ⟨.vmem, 131, rfl⟩
abbrev cc1_stg1_1 : Ref sig .tc := ⟨.vmem, 132, rfl⟩
abbrev cc1_stg2_0 : Ref sig .tc := ⟨.vmem, 133, rfl⟩
abbrev cc1_stg2_1 : Ref sig .tc := ⟨.vmem, 134, rfl⟩
abbrev cc1_stg3_0 : Ref sig .tc := ⟨.vmem, 135, rfl⟩
abbrev cc1_stg3_1 : Ref sig .tc := ⟨.vmem, 136, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73
abbrev cc0_sem37_0 : DmaSem sig := 74
abbrev cc0_sem37_1 : DmaSem sig := 75
abbrev cc0_sem38_0 : DmaSem sig := 76
abbrev cc0_sem38_1 : DmaSem sig := 77
abbrev cc0_sem39_0 : DmaSem sig := 78
abbrev cc0_sem39_1 : DmaSem sig := 79
abbrev cc0_sem40_0 : DmaSem sig := 80
abbrev cc0_sem40_1 : DmaSem sig := 81
abbrev cc0_sem41_0 : DmaSem sig := 82
abbrev cc0_sem41_1 : DmaSem sig := 83
abbrev cc0_sem42_0 : DmaSem sig := 84
abbrev cc0_sem42_1 : DmaSem sig := 85
abbrev cc0_sem43_0 : DmaSem sig := 86
abbrev cc0_sem43_1 : DmaSem sig := 87
abbrev cc0_sem44_0 : DmaSem sig := 88
abbrev cc0_sem44_1 : DmaSem sig := 89
abbrev cc0_sem45_0 : DmaSem sig := 90
abbrev cc0_sem45_1 : DmaSem sig := 91
abbrev cc0_sem46_0 : DmaSem sig := 92
abbrev cc0_sem46_1 : DmaSem sig := 93
abbrev cc0_sem47_0 : DmaSem sig := 94
abbrev cc0_sem47_1 : DmaSem sig := 95
abbrev cc0_sem48_0 : DmaSem sig := 96
abbrev cc0_sem48_1 : DmaSem sig := 97
abbrev cc0_sem49_0 : DmaSem sig := 98
abbrev cc0_sem49_1 : DmaSem sig := 99
abbrev cc0_sem50_0 : DmaSem sig := 100
abbrev cc0_sem50_1 : DmaSem sig := 101
abbrev cc0_sem51_0 : DmaSem sig := 102
abbrev cc0_sem51_1 : DmaSem sig := 103
abbrev cc0_sem52_0 : DmaSem sig := 104
abbrev cc0_sem52_1 : DmaSem sig := 105
abbrev cc0_sem53_0 : DmaSem sig := 106
abbrev cc0_sem53_1 : DmaSem sig := 107
abbrev cc0_sem54_0 : DmaSem sig := 108
abbrev cc0_sem54_1 : DmaSem sig := 109
abbrev cc0_sem55_0 : DmaSem sig := 110
abbrev cc0_sem55_1 : DmaSem sig := 111
abbrev cc0_sem56_0 : DmaSem sig := 112
abbrev cc0_sem56_1 : DmaSem sig := 113
abbrev cc0_sem57_0 : DmaSem sig := 114
abbrev cc0_sem57_1 : DmaSem sig := 115
abbrev cc0_sem58_0 : DmaSem sig := 116
abbrev cc0_sem58_1 : DmaSem sig := 117
abbrev cc0_sem59_0 : DmaSem sig := 118
abbrev cc0_sem59_1 : DmaSem sig := 119
abbrev cc0_sem60_0 : DmaSem sig := 120
abbrev cc0_sem60_1 : DmaSem sig := 121
abbrev cc0_sem61_0 : DmaSem sig := 122
abbrev cc0_sem61_1 : DmaSem sig := 123
abbrev cc0_sem62_0 : DmaSem sig := 124
abbrev cc0_sem62_1 : DmaSem sig := 125
abbrev cc0_sem63_0 : DmaSem sig := 126
abbrev cc0_sem63_1 : DmaSem sig := 127
abbrev cc0_sem64_0 : DmaSem sig := 128
abbrev cc0_sem64_1 : DmaSem sig := 129
abbrev cc1_sem0_0 : DmaSem sig := 130
abbrev cc1_sem1_0 : DmaSem sig := 131
abbrev cc1_sem1_1 : DmaSem sig := 132
abbrev cc1_sem2_0 : DmaSem sig := 133
abbrev cc1_sem2_1 : DmaSem sig := 134
abbrev cc1_sem3_0 : DmaSem sig := 135
abbrev cc1_sem3_1 : DmaSem sig := 136

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let c64_i32 : BitVec 32 := 64#32
  let arg0 : BitVec 32 := BitVec.ofNat 32 (i 0).val
  let v0 : BitVec 32 := Scalar.muli c64_i32 arg0
  let v1 : BitVec 32 := Scalar.addi v0 c0_i32
  let v2 : Index := Scalar.indexCast v1
  ![v2.toNat]
def cc0_transform_0 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c0_i32 : BitVec 32 := 0#32
  let v1 : BitVec 32 := Scalar.addi v0 c0_i32
  let v2 : Index := Scalar.indexCast v1
  let v3 : BitVec 32 := pf.at 0 (Rect.unit (s := S1024) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_1 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c1_i32 : BitVec 32 := 1#32
  let v1 : BitVec 32 := Scalar.addi v0 c1_i32
  let v2 : Index := Scalar.indexCast v1
  let v3 : BitVec 32 := pf.at 0 (Rect.unit (s := S1024) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_2 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c2_i32 : BitVec 32 := 2#32
  let v1 : BitVec 32 := Scalar.addi v0 c2_i32
  let v2 : Index := Scalar.indexCast v1
  let v3 : BitVec 32 := pf.at 0 (Rect.unit (s := S1024) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_3 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c3_i32 : BitVec 32 := 3#32
  let v1 : BitVec 32 := Scalar.addi v0 c3_i32
  let v2 : Index := Scalar.indexCast v1
  let v3 : BitVec 32 := pf.at 0 (Rect.unit (s := S1024) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_4 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c4_i32 : BitVec 32 := 4#32
  let v1 : BitVec 32 := Scalar.addi v0 c4_i32
  let v2 : Index := Scalar.indexCast v1
  let v3 : BitVec 32 := pf.at 0 (Rect.unit (s := S1024) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_5 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c5_i32 : BitVec 32 := 5#32
  let v1 : BitVec 32 := Scalar.addi v0 c5_i32
  let v2 : Index := Scalar.indexCast v1
  let v3 : BitVec 32 := pf.at 0 (Rect.unit (s := S1024) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_6 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c6_i32 : BitVec 32 := 6#32
  let v1 : BitVec 32 := Scalar.addi v0 c6_i32
  let v2 : Index := Scalar.indexCast v1
  let v3 : BitVec 32 := pf.at 0 (Rect.unit (s := S1024) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_7 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c7_i32 : BitVec 32 := 7#32
  let v1 : BitVec 32 := Scalar.addi v0 c7_i32
  let v2 : Index := Scalar.indexCast v1
  let v3 : BitVec 32 := pf.at 0 (Rect.unit (s := S1024) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_8 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c8_i32 : BitVec 32 := 8#32
  let v1 : BitVec 32 := Scalar.addi v0 c8_i32
  let v2 : Index := Scalar.indexCast v1
  let v3 : BitVec 32 := pf.at 0 (Rect.unit (s := S1024) ![v2.toNat] S1.size (k0_off1_inb i 8)) numel1_S1
  let c0_i32 : BitVec 32 := 0#32
  let c0_i32_0 : BitVec 32 := 0#32
  let c0_i32_1 : BitVec 32 := 0#32
  ![v3.toNat, c0_i32.toNat, c0_i32_0.toNat]

def cc0_transform_9 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c9_i32 : BitVec 32 := 9#32
  let v1 : BitVec 32 := Scalar.addi v0 c9_i32
  let v2 : Index := Scalar.indexCast v1
  let v3 : BitVec 32 := pf.at 0 (Rect.unit (s := S1024) ![v2.toNat] S1.size (k0_off1_inb i 9)) numel1_S1
  let c0_i32 : BitVec 32 := 0#32
  let c0_i32_0 : BitVec 32 := 0#32
  let c0_i32_1 : BitVec 32 := 0#32
  ![v3.toNat, c0_i32.toNat, c0_i32_0.toNat]

def cc0_transform_10 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c10_i32 : BitVec 32 := 10#32
  let v1 : BitVec 32 := Scalar.addi v0 c10_i32
  let v2 : Index := Scalar.indexCast v1
  let v3 : BitVec 32 := pf.at 0 (Rect.unit (s := S1024) ![v2.toNat] S1.size (k0_off1_inb i 10)) numel1_S1
  let c0_i32 : BitVec 32 := 0#32
  let c0_i32_0 : BitVec 32 := 0#32
  let c0_i32_1 : BitVec 32 := 0#32
  ![v3.toNat, c0_i32.toNat, c0_i32_0.toNat]

def cc0_transform_11 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c11_i32 : BitVec 32 := 11#32
  let v1 : BitVec 32 := Scalar.addi v0 c11_i32
  let v2 : Index := Scalar.indexCast v1
  let v3 : BitVec 32 := pf.at 0 (Rect.unit (s := S1024) ![v2.toNat] S1.size (k0_off1_inb i 11)) numel1_S1
  let c0_i32 : BitVec 32 := 0#32
  let c0_i32_0 : BitVec 32 := 0#32
  let c0_i32_1 : BitVec 32 := 0#32
  ![v3.toNat, c0_i32.toNat, c0_i32_0.toNat]

def cc0_transform_12 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c12_i32 : BitVec 32 := 12#32
  let v1 : BitVec 32 := Scalar.addi v0 c12_i32
  let v2 : Index := Scalar.indexCast v1
  let v3 : BitVec 32 := pf.at 0 (Rect.unit (s := S1024) ![v2.toNat] S1.size (k0_off1_inb i 12)) numel1_S1
  let c0_i32 : BitVec 32 := 0#32
  let c0_i32_0 : BitVec 32 := 0#32
  let c0_i32_1 : BitVec 32 := 0#32
  ![v3.toNat, c0_i32.toNat, c0_i32_0.toNat]

def cc0_transform_13 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c13_i32 : BitVec 32 := 13#32
  let v1 : BitVec 32 := Scalar.addi v0 c13_i32
  let v2 : Index := Scalar.indexCast v1
  let v3 : BitVec 32 := pf.at 0 (Rect.unit (s := S1024) ![v2.toNat] S1.size (k0_off1_inb i 13)) numel1_S1
  let c0_i32 : BitVec 32 := 0#32
  let c0_i32_0 : BitVec 32 := 0#32
  let c0_i32_1 : BitVec 32 := 0#32
  ![v3.toNat, c0_i32.toNat, c0_i32_0.toNat]

def cc0_transform_14 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c14_i32 : BitVec 32 := 14#32
  let v1 : BitVec 32 := Scalar.addi v0 c14_i32
  let v2 : Index := Scalar.indexCast v1
  let v3 : BitVec 32 := pf.at 0 (Rect.unit (s := S1024) ![v2.toNat] S1.size (k0_off1_inb i 14)) numel1_S1
  let c0_i32 : BitVec 32 := 0#32
  let c0_i32_0 : BitVec 32 := 0#32
  let c0_i32_1 : BitVec 32 := 0#32
  ![v3.toNat, c0_i32.toNat, c0_i32_0.toNat]

def cc0_transform_15 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c15_i32 : BitVec 32 := 15#32
  let v1 : BitVec 32 := Scalar.addi v0 c15_i32
  let v2 : Index := Scalar.indexCast v1
  let v3 : BitVec 32 := pf.at 0 (Rect.unit (s := S1024) ![v2.toNat] S1.size (k0_off1_inb i 15)) numel1_S1
  let c0_i32 : BitVec 32 := 0#32
  let c0_i32_0 : BitVec 32 := 0#32
  let c0_i32_1 : BitVec 32 := 0#32
  ![v3.toNat, c0_i32.toNat, c0_i32_0.toNat]

def cc0_transform_16 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c16_i32 : BitVec 32 := 16#32
  let v1 : BitVec 32 := Scalar.addi v0 c16_i32
  let v2 : Index := Scalar.indexCast v1
  let v3 : BitVec 32 := pf.at 0 (Rect.unit (s := S1024) ![v2.toNat] S1.size (k0_off1_inb i 16)) numel1_S1
  let c0_i32 : BitVec 32 := 0#32
  let c0_i32_0 : BitVec 32 := 0#32
  let c0_i32_1 : BitVec 32 := 0#32
  ![v3.toNat, c0_i32.toNat, c0_i32_0.toNat]

def cc0_transform_17 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c17_i32 : BitVec 32 := 17#32
  let v1 : BitVec 32 := Scalar.addi v0 c17_i32
  let v2 : Index := Scalar.indexCast v1
  let v3 : BitVec 32 := pf.at 0 (Rect.unit (s := S1024) ![v2.toNat] S1.size (k0_off1_inb i 17)) numel1_S1
  let c0_i32 : BitVec 32 := 0#32
  let c0_i32_0 : BitVec 32 := 0#32
  let c0_i32_1 : BitVec 32 := 0#32
  ![v3.toNat, c0_i32.toNat, c0_i32_0.toNat]

def cc0_transform_18 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c18_i32 : BitVec 32 := 18#32
  let v1 : BitVec 32 := Scalar.addi v0 c18_i32
  let v2 : Index := Scalar.indexCast v1
  let v3 : BitVec 32 := pf.at 0 (Rect.unit (s := S1024) ![v2.toNat] S1.size (k0_off1_inb i 18)) numel1_S1
  let c0_i32 : BitVec 32 := 0#32
  let c0_i32_0 : BitVec 32 := 0#32
  let c0_i32_1 : BitVec 32 := 0#32
  ![v3.toNat, c0_i32.toNat, c0_i32_0.toNat]

def cc0_transform_19 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c19_i32 : BitVec 32 := 19#32
  let v1 : BitVec 32 := Scalar.addi v0 c19_i32
  let v2 : Index := Scalar.indexCast v1
  let v3 : BitVec 32 := pf.at 0 (Rect.unit (s := S1024) ![v2.toNat] S1.size (k0_off1_inb i 19)) numel1_S1
  let c0_i32 : BitVec 32 := 0#32
  let c0_i32_0 : BitVec 32 := 0#32
  let c0_i32_1 : BitVec 32 := 0#32
  ![v3.toNat, c0_i32.toNat, c0_i32_0.toNat]

def cc0_transform_20 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c20_i32 : BitVec 32 := 20#32
  let v1 : BitVec 32 := Scalar.addi v0 c20_i32
  let v2 : Index := Scalar.indexCast v1
  let v3 : BitVec 32 := pf.at 0 (Rect.unit (s := S1024) ![v2.toNat] S1.size (k0_off1_inb i 20)) numel1_S1
  let c0_i32 : BitVec 32 := 0#32
  let c0_i32_0 : BitVec 32 := 0#32
  let c0_i32_1 : BitVec 32 := 0#32
  ![v3.toNat, c0_i32.toNat, c0_i32_0.toNat]

def cc0_transform_21 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c21_i32 : BitVec 32 := 21#32
  let v1 : BitVec 32 := Scalar.addi v0 c21_i32
  let v2 : Index := Scalar.indexCast v1
  let v3 : BitVec 32 := pf.at 0 (Rect.unit (s := S1024) ![v2.toNat] S1.size (k0_off1_inb i 21)) numel1_S1
  let c0_i32 : BitVec 32 := 0#32
  let c0_i32_0 : BitVec 32 := 0#32
  let c0_i32_1 : BitVec 32 := 0#32
  ![v3.toNat, c0_i32.toNat, c0_i32_0.toNat]

def cc0_transform_22 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c22_i32 : BitVec 32 := 22#32
  let v1 : BitVec 32 := Scalar.addi v0 c22_i32
  let v2 : Index := Scalar.indexCast v1
  let v3 : BitVec 32 := pf.at 0 (Rect.unit (s := S1024) ![v2.toNat] S1.size (k0_off1_inb i 22)) numel1_S1
  let c0_i32 : BitVec 32 := 0#32
  let c0_i32_0 : BitVec 32 := 0#32
  let c0_i32_1 : BitVec 32 := 0#32
  ![v3.toNat, c0_i32.toNat, c0_i32_0.toNat]

def cc0_transform_23 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c23_i32 : BitVec 32 := 23#32
  let v1 : BitVec 32 := Scalar.addi v0 c23_i32
  let v2 : Index := Scalar.indexCast v1
  let v3 : BitVec 32 := pf.at 0 (Rect.unit (s := S1024) ![v2.toNat] S1.size (k0_off1_inb i 23)) numel1_S1
  let c0_i32 : BitVec 32 := 0#32
  let c0_i32_0 : BitVec 32 := 0#32
  let c0_i32_1 : BitVec 32 := 0#32
  ![v3.toNat, c0_i32.toNat, c0_i32_0.toNat]

def cc0_transform_24 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c24_i32 : BitVec 32 := 24#32
  let v1 : BitVec 32 := Scalar.addi v0 c24_i32
  let v2 : Index := Scalar.indexCast v1
  let v3 : BitVec 32 := pf.at 0 (Rect.unit (s := S1024) ![v2.toNat] S1.size (k0_off1_inb i 24)) numel1_S1
  let c0_i32 : BitVec 32 := 0#32
  let c0_i32_0 : BitVec 32 := 0#32
  let c0_i32_1 : BitVec 32 := 0#32
  ![v3.toNat, c0_i32.toNat, c0_i32_0.toNat]

def cc0_transform_25 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c25_i32 : BitVec 32 := 25#32
  let v1 : BitVec 32 := Scalar.addi v0 c25_i32
  let v2 : Index := Scalar.indexCast v1
  let v3 : BitVec 32 := pf.at 0 (Rect.unit (s := S1024) ![v2.toNat] S1.size (k0_off1_inb i 25)) numel1_S1
  let c0_i32 : BitVec 32 := 0#32
  let c0_i32_0 : BitVec 32 := 0#32
  let c0_i32_1 : BitVec 32 := 0#32
  ![v3.toNat, c0_i32.toNat, c0_i32_0.toNat]

def cc0_transform_26 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c26_i32 : BitVec 32 := 26#32
  let v1 : BitVec 32 := Scalar.addi v0 c26_i32
  let v2 : Index := Scalar.indexCast v1
  let v3 : BitVec 32 := pf.at 0 (Rect.unit (s := S1024) ![v2.toNat] S1.size (k0_off1_inb i 26)) numel1_S1
  let c0_i32 : BitVec 32 := 0#32
  let c0_i32_0 : BitVec 32 := 0#32
  let c0_i32_1 : BitVec 32 := 0#32
  ![v3.toNat, c0_i32.toNat, c0_i32_0.toNat]

def cc0_transform_27 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c27_i32 : BitVec 32 := 27#32
  let v1 : BitVec 32 := Scalar.addi v0 c27_i32
  let v2 : Index := Scalar.indexCast v1
  let v3 : BitVec 32 := pf.at 0 (Rect.unit (s := S1024) ![v2.toNat] S1.size (k0_off1_inb i 27)) numel1_S1
  let c0_i32 : BitVec 32 := 0#32
  let c0_i32_0 : BitVec 32 := 0#32
  let c0_i32_1 : BitVec 32 := 0#32
  ![v3.toNat, c0_i32.toNat, c0_i32_0.toNat]

def cc0_transform_28 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c28_i32 : BitVec 32 := 28#32
  let v1 : BitVec 32 := Scalar.addi v0 c28_i32
  let v2 : Index := Scalar.indexCast v1
  let v3 : BitVec 32 := pf.at 0 (Rect.unit (s := S1024) ![v2.toNat] S1.size (k0_off1_inb i 28)) numel1_S1
  let c0_i32 : BitVec 32 := 0#32
  let c0_i32_0 : BitVec 32 := 0#32
  let c0_i32_1 : BitVec 32 := 0#32
  ![v3.toNat, c0_i32.toNat, c0_i32_0.toNat]

def cc0_transform_29 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c29_i32 : BitVec 32 := 29#32
  let v1 : BitVec 32 := Scalar.addi v0 c29_i32
  let v2 : Index := Scalar.indexCast v1
  let v3 : BitVec 32 := pf.at 0 (Rect.unit (s := S1024) ![v2.toNat] S1.size (k0_off1_inb i 29)) numel1_S1
  let c0_i32 : BitVec 32 := 0#32
  let c0_i32_0 : BitVec 32 := 0#32
  let c0_i32_1 : BitVec 32 := 0#32
  ![v3.toNat, c0_i32.toNat, c0_i32_0.toNat]

def cc0_transform_30 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c30_i32 : BitVec 32 := 30#32
  let v1 : BitVec 32 := Scalar.addi v0 c30_i32
  let v2 : Index := Scalar.indexCast v1
  let v3 : BitVec 32 := pf.at 0 (Rect.unit (s := S1024) ![v2.toNat] S1.size (k0_off1_inb i 30)) numel1_S1
  let c0_i32 : BitVec 32 := 0#32
  let c0_i32_0 : BitVec 32 := 0#32
  let c0_i32_1 : BitVec 32 := 0#32
  ![v3.toNat, c0_i32.toNat, c0_i32_0.toNat]

def cc0_transform_31 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c31_i32 : BitVec 32 := 31#32
  let v1 : BitVec 32 := Scalar.addi v0 c31_i32
  let v2 : Index := Scalar.indexCast v1
  let v3 : BitVec 32 := pf.at 0 (Rect.unit (s := S1024) ![v2.toNat] S1.size (k0_off1_inb i 31)) numel1_S1
  let c0_i32 : BitVec 32 := 0#32
  let c0_i32_0 : BitVec 32 := 0#32
  let c0_i32_1 : BitVec 32 := 0#32
  ![v3.toNat, c0_i32.toNat, c0_i32_0.toNat]

def cc0_transform_32 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c32_i32 : BitVec 32 := 32#32
  let v1 : BitVec 32 := Scalar.addi v0 c32_i32
  let v2 : Index := Scalar.indexCast v1
  let v3 : BitVec 32 := pf.at 0 (Rect.unit (s := S1024) ![v2.toNat] S1.size (k0_off1_inb i 32)) numel1_S1
  let c0_i32 : BitVec 32 := 0#32
  let c0_i32_0 : BitVec 32 := 0#32
  let c0_i32_1 : BitVec 32 := 0#32
  ![v3.toNat, c0_i32.toNat, c0_i32_0.toNat]

def cc0_transform_33 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c33_i32 : BitVec 32 := 33#32
  let v1 : BitVec 32 := Scalar.addi v0 c33_i32
  let v2 : Index := Scalar.indexCast v1
  let v3 : BitVec 32 := pf.at 0 (Rect.unit (s := S1024) ![v2.toNat] S1.size (k0_off1_inb i 33)) numel1_S1
  let c0_i32 : BitVec 32 := 0#32
  let c0_i32_0 : BitVec 32 := 0#32
  let c0_i32_1 : BitVec 32 := 0#32
  ![v3.toNat, c0_i32.toNat, c0_i32_0.toNat]

def cc0_transform_34 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c34_i32 : BitVec 32 := 34#32
  let v1 : BitVec 32 := Scalar.addi v0 c34_i32
  let v2 : Index := Scalar.indexCast v1
  let v3 : BitVec 32 := pf.at 0 (Rect.unit (s := S1024) ![v2.toNat] S1.size (k0_off1_inb i 34)) numel1_S1
  let c0_i32 : BitVec 32 := 0#32
  let c0_i32_0 : BitVec 32 := 0#32
  let c0_i32_1 : BitVec 32 := 0#32
  ![v3.toNat, c0_i32.toNat, c0_i32_0.toNat]

def cc0_transform_35 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c35_i32 : BitVec 32 := 35#32
  let v1 : BitVec 32 := Scalar.addi v0 c35_i32
  let v2 : Index := Scalar.indexCast v1
  let v3 : BitVec 32 := pf.at 0 (Rect.unit (s := S1024) ![v2.toNat] S1.size (k0_off1_inb i 35)) numel1_S1
  let c0_i32 : BitVec 32 := 0#32
  let c0_i32_0 : BitVec 32 := 0#32
  let c0_i32_1 : BitVec 32 := 0#32
  ![v3.toNat, c0_i32.toNat, c0_i32_0.toNat]

def cc0_transform_36 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c36_i32 : BitVec 32 := 36#32
  let v1 : BitVec 32 := Scalar.addi v0 c36_i32
  let v2 : Index := Scalar.indexCast v1
  let v3 : BitVec 32 := pf.at 0 (Rect.unit (s := S1024) ![v2.toNat] S1.size (k0_off1_inb i 36)) numel1_S1
  let c0_i32 : BitVec 32 := 0#32
  let c0_i32_0 : BitVec 32 := 0#32
  let c0_i32_1 : BitVec 32 := 0#32
  ![v3.toNat, c0_i32.toNat, c0_i32_0.toNat]

def cc0_transform_37 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c37_i32 : BitVec 32 := 37#32
  let v1 : BitVec 32 := Scalar.addi v0 c37_i32
  let v2 : Index := Scalar.indexCast v1
  let v3 : BitVec 32 := pf.at 0 (Rect.unit (s := S1024) ![v2.toNat] S1.size (k0_off1_inb i 37)) numel1_S1
  let c0_i32 : BitVec 32 := 0#32
  let c0_i32_0 : BitVec 32 := 0#32
  let c0_i32_1 : BitVec 32 := 0#32
  ![v3.toNat, c0_i32.toNat, c0_i32_0.toNat]

def cc0_transform_38 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c38_i32 : BitVec 32 := 38#32
  let v1 : BitVec 32 := Scalar.addi v0 c38_i32
  let v2 : Index := Scalar.indexCast v1
  let v3 : BitVec 32 := pf.at 0 (Rect.unit (s := S1024) ![v2.toNat] S1.size (k0_off1_inb i 38)) numel1_S1
  let c0_i32 : BitVec 32 := 0#32
  let c0_i32_0 : BitVec 32 := 0#32
  let c0_i32_1 : BitVec 32 := 0#32
  ![v3.toNat, c0_i32.toNat, c0_i32_0.toNat]

def cc0_transform_39 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c39_i32 : BitVec 32 := 39#32
  let v1 : BitVec 32 := Scalar.addi v0 c39_i32
  let v2 : Index := Scalar.indexCast v1
  let v3 : BitVec 32 := pf.at 0 (Rect.unit (s := S1024) ![v2.toNat] S1.size (k0_off1_inb i 39)) numel1_S1
  let c0_i32 : BitVec 32 := 0#32
  let c0_i32_0 : BitVec 32 := 0#32
  let c0_i32_1 : BitVec 32 := 0#32
  ![v3.toNat, c0_i32.toNat, c0_i32_0.toNat]

def cc0_transform_40 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c40_i32 : BitVec 32 := 40#32
  let v1 : BitVec 32 := Scalar.addi v0 c40_i32
  let v2 : Index := Scalar.indexCast v1
  let v3 : BitVec 32 := pf.at 0 (Rect.unit (s := S1024) ![v2.toNat] S1.size (k0_off1_inb i 40)) numel1_S1
  let c0_i32 : BitVec 32 := 0#32
  let c0_i32_0 : BitVec 32 := 0#32
  let c0_i32_1 : BitVec 32 := 0#32
  ![v3.toNat, c0_i32.toNat, c0_i32_0.toNat]

def cc0_transform_41 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c41_i32 : BitVec 32 := 41#32
  let v1 : BitVec 32 := Scalar.addi v0 c41_i32
  let v2 : Index := Scalar.indexCast v1
  let v3 : BitVec 32 := pf.at 0 (Rect.unit (s := S1024) ![v2.toNat] S1.size (k0_off1_inb i 41)) numel1_S1
  let c0_i32 : BitVec 32 := 0#32
  let c0_i32_0 : BitVec 32 := 0#32
  let c0_i32_1 : BitVec 32 := 0#32
  ![v3.toNat, c0_i32.toNat, c0_i32_0.toNat]

def cc0_transform_42 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c42_i32 : BitVec 32 := 42#32
  let v1 : BitVec 32 := Scalar.addi v0 c42_i32
  let v2 : Index := Scalar.indexCast v1
  let v3 : BitVec 32 := pf.at 0 (Rect.unit (s := S1024) ![v2.toNat] S1.size (k0_off1_inb i 42)) numel1_S1
  let c0_i32 : BitVec 32 := 0#32
  let c0_i32_0 : BitVec 32 := 0#32
  let c0_i32_1 : BitVec 32 := 0#32
  ![v3.toNat, c0_i32.toNat, c0_i32_0.toNat]

def cc0_transform_43 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c43_i32 : BitVec 32 := 43#32
  let v1 : BitVec 32 := Scalar.addi v0 c43_i32
  let v2 : Index := Scalar.indexCast v1
  let v3 : BitVec 32 := pf.at 0 (Rect.unit (s := S1024) ![v2.toNat] S1.size (k0_off1_inb i 43)) numel1_S1
  let c0_i32 : BitVec 32 := 0#32
  let c0_i32_0 : BitVec 32 := 0#32
  let c0_i32_1 : BitVec 32 := 0#32
  ![v3.toNat, c0_i32.toNat, c0_i32_0.toNat]

def cc0_transform_44 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c44_i32 : BitVec 32 := 44#32
  let v1 : BitVec 32 := Scalar.addi v0 c44_i32
  let v2 : Index := Scalar.indexCast v1
  let v3 : BitVec 32 := pf.at 0 (Rect.unit (s := S1024) ![v2.toNat] S1.size (k0_off1_inb i 44)) numel1_S1
  let c0_i32 : BitVec 32 := 0#32
  let c0_i32_0 : BitVec 32 := 0#32
  let c0_i32_1 : BitVec 32 := 0#32
  ![v3.toNat, c0_i32.toNat, c0_i32_0.toNat]

def cc0_transform_45 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c45_i32 : BitVec 32 := 45#32
  let v1 : BitVec 32 := Scalar.addi v0 c45_i32
  let v2 : Index := Scalar.indexCast v1
  let v3 : BitVec 32 := pf.at 0 (Rect.unit (s := S1024) ![v2.toNat] S1.size (k0_off1_inb i 45)) numel1_S1
  let c0_i32 : BitVec 32 := 0#32
  let c0_i32_0 : BitVec 32 := 0#32
  let c0_i32_1 : BitVec 32 := 0#32
  ![v3.toNat, c0_i32.toNat, c0_i32_0.toNat]

def cc0_transform_46 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c46_i32 : BitVec 32 := 46#32
  let v1 : BitVec 32 := Scalar.addi v0 c46_i32
  let v2 : Index := Scalar.indexCast v1
  let v3 : BitVec 32 := pf.at 0 (Rect.unit (s := S1024) ![v2.toNat] S1.size (k0_off1_inb i 46)) numel1_S1
  let c0_i32 : BitVec 32 := 0#32
  let c0_i32_0 : BitVec 32 := 0#32
  let c0_i32_1 : BitVec 32 := 0#32
  ![v3.toNat, c0_i32.toNat, c0_i32_0.toNat]

def cc0_transform_47 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c47_i32 : BitVec 32 := 47#32
  let v1 : BitVec 32 := Scalar.addi v0 c47_i32
  let v2 : Index := Scalar.indexCast v1
  let v3 : BitVec 32 := pf.at 0 (Rect.unit (s := S1024) ![v2.toNat] S1.size (k0_off1_inb i 47)) numel1_S1
  let c0_i32 : BitVec 32 := 0#32
  let c0_i32_0 : BitVec 32 := 0#32
  let c0_i32_1 : BitVec 32 := 0#32
  ![v3.toNat, c0_i32.toNat, c0_i32_0.toNat]

def cc0_transform_48 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c48_i32 : BitVec 32 := 48#32
  let v1 : BitVec 32 := Scalar.addi v0 c48_i32
  let v2 : Index := Scalar.indexCast v1
  let v3 : BitVec 32 := pf.at 0 (Rect.unit (s := S1024) ![v2.toNat] S1.size (k0_off1_inb i 48)) numel1_S1
  let c0_i32 : BitVec 32 := 0#32
  let c0_i32_0 : BitVec 32 := 0#32
  let c0_i32_1 : BitVec 32 := 0#32
  ![v3.toNat, c0_i32.toNat, c0_i32_0.toNat]

def cc0_transform_49 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c49_i32 : BitVec 32 := 49#32
  let v1 : BitVec 32 := Scalar.addi v0 c49_i32
  let v2 : Index := Scalar.indexCast v1
  let v3 : BitVec 32 := pf.at 0 (Rect.unit (s := S1024) ![v2.toNat] S1.size (k0_off1_inb i 49)) numel1_S1
  let c0_i32 : BitVec 32 := 0#32
  let c0_i32_0 : BitVec 32 := 0#32
  let c0_i32_1 : BitVec 32 := 0#32
  ![v3.toNat, c0_i32.toNat, c0_i32_0.toNat]

def cc0_transform_50 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c50_i32 : BitVec 32 := 50#32
  let v1 : BitVec 32 := Scalar.addi v0 c50_i32
  let v2 : Index := Scalar.indexCast v1
  let v3 : BitVec 32 := pf.at 0 (Rect.unit (s := S1024) ![v2.toNat] S1.size (k0_off1_inb i 50)) numel1_S1
  let c0_i32 : BitVec 32 := 0#32
  let c0_i32_0 : BitVec 32 := 0#32
  let c0_i32_1 : BitVec 32 := 0#32
  ![v3.toNat, c0_i32.toNat, c0_i32_0.toNat]

def cc0_transform_51 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c51_i32 : BitVec 32 := 51#32
  let v1 : BitVec 32 := Scalar.addi v0 c51_i32
  let v2 : Index := Scalar.indexCast v1
  let v3 : BitVec 32 := pf.at 0 (Rect.unit (s := S1024) ![v2.toNat] S1.size (k0_off1_inb i 51)) numel1_S1
  let c0_i32 : BitVec 32 := 0#32
  let c0_i32_0 : BitVec 32 := 0#32
  let c0_i32_1 : BitVec 32 := 0#32
  ![v3.toNat, c0_i32.toNat, c0_i32_0.toNat]

def cc0_transform_52 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c52_i32 : BitVec 32 := 52#32
  let v1 : BitVec 32 := Scalar.addi v0 c52_i32
  let v2 : Index := Scalar.indexCast v1
  let v3 : BitVec 32 := pf.at 0 (Rect.unit (s := S1024) ![v2.toNat] S1.size (k0_off1_inb i 52)) numel1_S1
  let c0_i32 : BitVec 32 := 0#32
  let c0_i32_0 : BitVec 32 := 0#32
  let c0_i32_1 : BitVec 32 := 0#32
  ![v3.toNat, c0_i32.toNat, c0_i32_0.toNat]

def cc0_transform_53 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c53_i32 : BitVec 32 := 53#32
  let v1 : BitVec 32 := Scalar.addi v0 c53_i32
  let v2 : Index := Scalar.indexCast v1
  let v3 : BitVec 32 := pf.at 0 (Rect.unit (s := S1024) ![v2.toNat] S1.size (k0_off1_inb i 53)) numel1_S1
  let c0_i32 : BitVec 32 := 0#32
  let c0_i32_0 : BitVec 32 := 0#32
  let c0_i32_1 : BitVec 32 := 0#32
  ![v3.toNat, c0_i32.toNat, c0_i32_0.toNat]

def cc0_transform_54 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c54_i32 : BitVec 32 := 54#32
  let v1 : BitVec 32 := Scalar.addi v0 c54_i32
  let v2 : Index := Scalar.indexCast v1
  let v3 : BitVec 32 := pf.at 0 (Rect.unit (s := S1024) ![v2.toNat] S1.size (k0_off1_inb i 54)) numel1_S1
  let c0_i32 : BitVec 32 := 0#32
  let c0_i32_0 : BitVec 32 := 0#32
  let c0_i32_1 : BitVec 32 := 0#32
  ![v3.toNat, c0_i32.toNat, c0_i32_0.toNat]

def cc0_transform_55 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c55_i32 : BitVec 32 := 55#32
  let v1 : BitVec 32 := Scalar.addi v0 c55_i32
  let v2 : Index := Scalar.indexCast v1
  let v3 : BitVec 32 := pf.at 0 (Rect.unit (s := S1024) ![v2.toNat] S1.size (k0_off1_inb i 55)) numel1_S1
  let c0_i32 : BitVec 32 := 0#32
  let c0_i32_0 : BitVec 32 := 0#32
  let c0_i32_1 : BitVec 32 := 0#32
  ![v3.toNat, c0_i32.toNat, c0_i32_0.toNat]

def cc0_transform_56 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c56_i32 : BitVec 32 := 56#32
  let v1 : BitVec 32 := Scalar.addi v0 c56_i32
  let v2 : Index := Scalar.indexCast v1
  let v3 : BitVec 32 := pf.at 0 (Rect.unit (s := S1024) ![v2.toNat] S1.size (k0_off1_inb i 56)) numel1_S1
  let c0_i32 : BitVec 32 := 0#32
  let c0_i32_0 : BitVec 32 := 0#32
  let c0_i32_1 : BitVec 32 := 0#32
  ![v3.toNat, c0_i32.toNat, c0_i32_0.toNat]

def cc0_transform_57 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c57_i32 : BitVec 32 := 57#32
  let v1 : BitVec 32 := Scalar.addi v0 c57_i32
  let v2 : Index := Scalar.indexCast v1
  let v3 : BitVec 32 := pf.at 0 (Rect.unit (s := S1024) ![v2.toNat] S1.size (k0_off1_inb i 57)) numel1_S1
  let c0_i32 : BitVec 32 := 0#32
  let c0_i32_0 : BitVec 32 := 0#32
  let c0_i32_1 : BitVec 32 := 0#32
  ![v3.toNat, c0_i32.toNat, c0_i32_0.toNat]

def cc0_transform_58 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c58_i32 : BitVec 32 := 58#32
  let v1 : BitVec 32 := Scalar.addi v0 c58_i32
  let v2 : Index := Scalar.indexCast v1
  let v3 : BitVec 32 := pf.at 0 (Rect.unit (s := S1024) ![v2.toNat] S1.size (k0_off1_inb i 58)) numel1_S1
  let c0_i32 : BitVec 32 := 0#32
  let c0_i32_0 : BitVec 32 := 0#32
  let c0_i32_1 : BitVec 32 := 0#32
  ![v3.toNat, c0_i32.toNat, c0_i32_0.toNat]

def cc0_transform_59 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c59_i32 : BitVec 32 := 59#32
  let v1 : BitVec 32 := Scalar.addi v0 c59_i32
  let v2 : Index := Scalar.indexCast v1
  let v3 : BitVec 32 := pf.at 0 (Rect.unit (s := S1024) ![v2.toNat] S1.size (k0_off1_inb i 59)) numel1_S1
  let c0_i32 : BitVec 32 := 0#32
  let c0_i32_0 : BitVec 32 := 0#32
  let c0_i32_1 : BitVec 32 := 0#32
  ![v3.toNat, c0_i32.toNat, c0_i32_0.toNat]

def cc0_transform_60 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c60_i32 : BitVec 32 := 60#32
  let v1 : BitVec 32 := Scalar.addi v0 c60_i32
  let v2 : Index := Scalar.indexCast v1
  let v3 : BitVec 32 := pf.at 0 (Rect.unit (s := S1024) ![v2.toNat] S1.size (k0_off1_inb i 60)) numel1_S1
  let c0_i32 : BitVec 32 := 0#32
  let c0_i32_0 : BitVec 32 := 0#32
  let c0_i32_1 : BitVec 32 := 0#32
  ![v3.toNat, c0_i32.toNat, c0_i32_0.toNat]

def cc0_transform_61 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c61_i32 : BitVec 32 := 61#32
  let v1 : BitVec 32 := Scalar.addi v0 c61_i32
  let v2 : Index := Scalar.indexCast v1
  let v3 : BitVec 32 := pf.at 0 (Rect.unit (s := S1024) ![v2.toNat] S1.size (k0_off1_inb i 61)) numel1_S1
  let c0_i32 : BitVec 32 := 0#32
  let c0_i32_0 : BitVec 32 := 0#32
  let c0_i32_1 : BitVec 32 := 0#32
  ![v3.toNat, c0_i32.toNat, c0_i32_0.toNat]

def cc0_transform_62 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c62_i32 : BitVec 32 := 62#32
  let v1 : BitVec 32 := Scalar.addi v0 c62_i32
  let v2 : Index := Scalar.indexCast v1
  let v3 : BitVec 32 := pf.at 0 (Rect.unit (s := S1024) ![v2.toNat] S1.size (k0_off1_inb i 62)) numel1_S1
  let c0_i32 : BitVec 32 := 0#32
  let c0_i32_0 : BitVec 32 := 0#32
  let c0_i32_1 : BitVec 32 := 0#32
  ![v3.toNat, c0_i32.toNat, c0_i32_0.toNat]

def cc0_transform_63 (k0_off1_inb : ∀ i : grid0.Coords, ∀ (r : Fin 64), ∀ a, (k0_off1 i (BitVec.ofNat 32 r.val)) a + S1.size a ≤ S1024.size a) (numel1_S1 : S1.numel = 1) (pf : pre0.Contents (Elt F)) (i : grid0.Coords) : Fin 3 → Nat :=
  let arg0 : BitVec 32 := BitVec.ofNat 32 (i 0).val
  let c64_i32 : BitVec 32 := 64#32
  let v0 : BitVec 32 := Scalar.muli c64_i32 arg0
  let c63_i32 : BitVec 32 := 63#32
  let v1 : BitVec 32 := Scalar.addi v0 c63_i32
  let v2 : Index := Scalar.indexCast v1
  let v3 : BitVec 32 := pf.at 0 (Rect.unit (s := S1024) ![v2.toNat] S1.size (k0_off1_inb i 63)) numel1_S1
  let c0_i32 : BitVec 32 := 0#32
  let c0_i32_0 : BitVec 32 := 0#32
  let c0_i32_1 : BitVec 32 := 0#32
  ![v3.toNat, c0_i32.toNat, c0_i32_0.toNat]

def cc0_transform_64 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x300 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x300 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x300 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x300 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x300 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x300 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x300 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x300 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x300 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x300 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x300 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x300 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x300 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x300 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x300 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x300 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x300 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x300 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x300 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1x300 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x1x300 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x300 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x1x300 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x1x300 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x1x300 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x1x300 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x1x300 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x1x300 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x1x300 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x1x300 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x1x300 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x1x300 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x1x300 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S1x1x300 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S1x1x300 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S1x1x300 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S1x1x300 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S1x1x300 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S1x1x300 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S1x1x300 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]

abbrev stage0_44 : Fin 2 → Memref sig .tc .vmem S1x1x300 .f32 := fun | 0 => Memref.whole cc0_stg44_0 | 1 => Memref.whole cc0_stg44_1 | ⟨_ + 2, h⟩ => absurd h (Nat.not_lt.2 (Nat.le_add_left _ _))
abbrev sem0_44 : Fin 2 → DmaSem sig := fun | 0 => cc0_sem44_0 | 1 => cc0_sem44_1 | ⟨_ + 2, h⟩ => absurd h (Nat.not_lt.2 (Nat.le_add_left _ _))
abbrev reads0_44 : Fin grid0.rank → Bool := ![true]

abbrev stage0_45 : Fin 2 → Memref sig .tc .vmem S1x1x300 .f32 := fun | 0 => Memref.whole cc0_stg45_0 | 1 => Memref.whole cc0_stg45_1 | ⟨_ + 2, h⟩ => absurd h (Nat.not_lt.2 (Nat.le_add_left _ _))
abbrev sem0_45 : Fin 2 → DmaSem sig := fun | 0 => cc0_sem45_0 | 1 => cc0_sem45_1 | ⟨_ + 2, h⟩ => absurd h (Nat.not_lt.2 (Nat.le_add_left _ _))
abbrev reads0_45 : Fin grid0.rank → Bool := ![true]

abbrev stage0_46 : Fin 2 → Memref sig .tc .vmem S1x1x300 .f32 := fun | 0 => Memref.whole cc0_stg46_0 | 1 => Memref.whole cc0_stg46_1 | ⟨_ + 2, h⟩ => absurd h (Nat.not_lt.2 (Nat.le_add_left _ _))
abbrev sem0_46 : Fin 2 → DmaSem sig := fun | 0 => cc0_sem46_0 | 1 => cc0_sem46_1 | ⟨_ + 2, h⟩ => absurd h (Nat.not_lt.2 (Nat.le_add_left _ _))
abbrev reads0_46 : Fin grid0.rank → Bool := ![true]

abbrev stage0_47 : Fin 2 → Memref sig .tc .vmem S1x1x300 .f32 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true]

abbrev stage0_48 : Fin 2 → Memref sig .tc .vmem S1x1x300 .f32 := fun | 0 => Memref.whole cc0_stg48_0 | 1 => Memref.whole cc0_stg48_1 | ⟨_ + 2, h⟩ => absurd h (Nat.not_lt.2 (Nat.le_add_left _ _))
abbrev sem0_48 : Fin 2 → DmaSem sig := fun | 0 => cc0_sem48_0 | 1 => cc0_sem48_1 | ⟨_ + 2, h⟩ => absurd h (Nat.not_lt.2 (Nat.le_add_left _ _))
abbrev reads0_48 : Fin grid0.rank → Bool := ![true]

abbrev stage0_49 : Fin 2 → Memref sig .tc .vmem S1x1x300 .f32 := fun | 0 => Memref.whole cc0_stg49_0 | 1 => Memref.whole cc0_stg49_1 | ⟨_ + 2, h⟩ => absurd h (Nat.not_lt.2 (Nat.le_add_left _ _))
abbrev sem0_49 : Fin 2 → DmaSem sig := fun | 0 => cc0_sem49_0 | 1 => cc0_sem49_1 | ⟨_ + 2, h⟩ => absurd h (Nat.not_lt.2 (Nat.le_add_left _ _))
abbrev reads0_49 : Fin grid0.rank → Bool := ![true]

abbrev stage0_50 : Fin 2 → Memref sig .tc .vmem S1x1x300 .f32 := fun | 0 => Memref.whole cc0_stg50_0 | 1 => Memref.whole cc0_stg50_1 | ⟨_ + 2, h⟩ => absurd h (Nat.not_lt.2 (Nat.le_add_left _ _))
abbrev sem0_50 : Fin 2 → DmaSem sig := fun | 0 => cc0_sem50_0 | 1 => cc0_sem50_1 | ⟨_ + 2, h⟩ => absurd h (Nat.not_lt.2 (Nat.le_add_left _ _))
abbrev reads0_50 : Fin grid0.rank → Bool := ![true]

abbrev stage0_51 : Fin 2 → Memref sig .tc .vmem S1x1x300 .f32 := fun | 0 => Memref.whole cc0_stg51_0 | 1 => Memref.whole cc0_stg51_1 | ⟨_ + 2, h⟩ => absurd h (Nat.not_lt.2 (Nat.le_add_left _ _))
abbrev sem0_51 : Fin 2 → DmaSem sig := fun | 0 => cc0_sem51_0 | 1 => cc0_sem51_1 | ⟨_ + 2, h⟩ => absurd h (Nat.not_lt.2 (Nat.le_add_left _ _))
abbrev reads0_51 : Fin grid0.rank → Bool := ![true]

abbrev stage0_52 : Fin 2 → Memref sig .tc .vmem S1x1x300 .f32 := fun | 0 => Memref.whole cc0_stg52_0 | 1 => Memref.whole cc0_stg52_1 | ⟨_ + 2, h⟩ => absurd h (Nat.not_lt.2 (Nat.le_add_left _ _))
abbrev sem0_52 : Fin 2 → DmaSem sig := fun | 0 => cc0_sem52_0 | 1 => cc0_sem52_1 | ⟨_ + 2, h⟩ => absurd h (Nat.not_lt.2 (Nat.le_add_left _ _))
abbrev reads0_52 : Fin grid0.rank → Bool := ![true]

abbrev stage0_53 : Fin 2 → Memref sig .tc .vmem S1x1x300 .f32 := fun | 0 => Memref.whole cc0_stg53_0 | 1 => Memref.whole cc0_stg53_1 | ⟨_ + 2, h⟩ => absurd h (Nat.not_lt.2 (Nat.le_add_left _ _))
abbrev sem0_53 : Fin 2 → DmaSem sig := fun | 0 => cc0_sem53_0 | 1 => cc0_sem53_1 | ⟨_ + 2, h⟩ => absurd h (Nat.not_lt.2 (Nat.le_add_left _ _))
abbrev reads0_53 : Fin grid0.rank → Bool := ![true]

abbrev stage0_54 : Fin 2 → Memref sig .tc .vmem S1x1x300 .f32 := fun | 0 => Memref.whole cc0_stg54_0 | 1 => Memref.whole cc0_stg54_1 | ⟨_ + 2, h⟩ => absurd h (Nat.not_lt.2 (Nat.le_add_left _ _))
abbrev sem0_54 : Fin 2 → DmaSem sig := fun | 0 => cc0_sem54_0 | 1 => cc0_sem54_1 | ⟨_ + 2, h⟩ => absurd h (Nat.not_lt.2 (Nat.le_add_left _ _))
abbrev reads0_54 : Fin grid0.rank → Bool := ![true]

abbrev stage0_55 : Fin 2 → Memref sig .tc .vmem S1x1x300 .f32 := fun | 0 => Memref.whole cc0_stg55_0 | 1 => Memref.whole cc0_stg55_1 | ⟨_ + 2, h⟩ => absurd h (Nat.not_lt.2 (Nat.le_add_left _ _))
abbrev sem0_55 : Fin 2 → DmaSem sig := fun | 0 => cc0_sem55_0 | 1 => cc0_sem55_1 | ⟨_ + 2, h⟩ => absurd h (Nat.not_lt.2 (Nat.le_add_left _ _))
abbrev reads0_55 : Fin grid0.rank → Bool := ![true]

abbrev stage0_56 : Fin 2 → Memref sig .tc .vmem S1x1x300 .f32 := fun | 0 => Memref.whole cc0_stg56_0 | 1 => Memref.whole cc0_stg56_1 | ⟨_ + 2, h⟩ => absurd h (Nat.not_lt.2 (Nat.le_add_left _ _))
abbrev sem0_56 : Fin 2 → DmaSem sig := fun | 0 => cc0_sem56_0 | 1 => cc0_sem56_1 | ⟨_ + 2, h⟩ => absurd h (Nat.not_lt.2 (Nat.le_add_left _ _))
abbrev reads0_56 : Fin grid0.rank → Bool := ![true]

abbrev stage0_57 : Fin 2 → Memref sig .tc .vmem S1x1x300 .f32 := fun | 0 => Memref.whole cc0_stg57_0 | 1 => Memref.whole cc0_stg57_1 | ⟨_ + 2, h⟩ => absurd h (Nat.not_lt.2 (Nat.le_add_left _ _))
abbrev sem0_57 : Fin 2 → DmaSem sig := fun | 0 => cc0_sem57_0 | 1 => cc0_sem57_1 | ⟨_ + 2, h⟩ => absurd h (Nat.not_lt.2 (Nat.le_add_left _ _))
abbrev reads0_57 : Fin grid0.rank → Bool := ![true]

abbrev stage0_58 : Fin 2 → Memref sig .tc .vmem S1x1x300 .f32 := fun | 0 => Memref.whole cc0_stg58_0 | 1 => Memref.whole cc0_stg58_1 | ⟨_ + 2, h⟩ => absurd h (Nat.not_lt.2 (Nat.le_add_left _ _))
abbrev sem0_58 : Fin 2 → DmaSem sig := fun | 0 => cc0_sem58_0 | 1 => cc0_sem58_1 | ⟨_ + 2, h⟩ => absurd h (Nat.not_lt.2 (Nat.le_add_left _ _))
abbrev reads0_58 : Fin grid0.rank → Bool := ![true]

abbrev stage0_59 : Fin 2 → Memref sig .tc .vmem S1x1x300 .f32 := fun | 0 => Memref.whole cc0_stg59_0 | 1 => Memref.whole cc0_stg59_1 | ⟨_ + 2, h⟩ => absurd h (Nat.not_lt.2 (Nat.le_add_left _ _))
abbrev sem0_59 : Fin 2 → DmaSem sig := fun | 0 => cc0_sem59_0 | 1 => cc0_sem59_1 | ⟨_ + 2, h⟩ => absurd h (Nat.not_lt.2 (Nat.le_add_left _ _))
abbrev reads0_59 : Fin grid0.rank → Bool := ![true]

abbrev stage0_60 : Fin 2 → Memref sig .tc .vmem S1x1x300 .f32 := fun | 0 => Memref.whole cc0_stg60_0 | 1 => Memref.whole cc0_stg60_1 | ⟨_ + 2, h⟩ => absurd h (Nat.not_lt.2 (Nat.le_add_left _ _))
abbrev sem0_60 : Fin 2 → DmaSem sig := fun | 0 => cc0_sem60_0 | 1 => cc0_sem60_1 | ⟨_ + 2, h⟩ => absurd h (Nat.not_lt.2 (Nat.le_add_left _ _))
abbrev reads0_60 : Fin grid0.rank → Bool := ![true]

abbrev stage0_61 : Fin 2 → Memref sig .tc .vmem S1x1x300 .f32 := fun | 0 => Memref.whole cc0_stg61_0 | 1 => Memref.whole cc0_stg61_1 | ⟨_ + 2, h⟩ => absurd h (Nat.not_lt.2 (Nat.le_add_left _ _))
abbrev sem0_61 : Fin 2 → DmaSem sig := fun | 0 => cc0_sem61_0 | 1 => cc0_sem61_1 | ⟨_ + 2, h⟩ => absurd h (Nat.not_lt.2 (Nat.le_add_left _ _))
abbrev reads0_61 : Fin grid0.rank → Bool := ![true]

abbrev stage0_62 : Fin 2 → Memref sig .tc .vmem S1x1x300 .f32 := fun | 0 => Memref.whole cc0_stg62_0 | 1 => Memref.whole cc0_stg62_1 | ⟨_ + 2, h⟩ => absurd h (Nat.not_lt.2 (Nat.le_add_left _ _))
abbrev sem0_62 : Fin 2 → DmaSem sig := fun | 0 => cc0_sem62_0 | 1 => cc0_sem62_1 | ⟨_ + 2, h⟩ => absurd h (Nat.not_lt.2 (Nat.le_add_left _ _))
abbrev reads0_62 : Fin grid0.rank → Bool := ![true]

abbrev stage0_63 : Fin 2 → Memref sig .tc .vmem S1x1x300 .f32 := fun | 0 => Memref.whole cc0_stg63_0 | 1 => Memref.whole cc0_stg63_1 | ⟨_ + 2, h⟩ => absurd h (Nat.not_lt.2 (Nat.le_add_left _ _))
abbrev sem0_63 : Fin 2 → DmaSem sig := fun | 0 => cc0_sem63_0 | 1 => cc0_sem63_1 | ⟨_ + 2, h⟩ => absurd h (Nat.not_lt.2 (Nat.le_add_left _ _))
abbrev reads0_63 : Fin grid0.rank → Bool := ![true]

abbrev stage0_64 : Fin 2 → Memref sig .tc .vmem S64x300 .bf16 := fun | 0 => Memref.whole cc0_stg64_0 | 1 => Memref.whole cc0_stg64_1 | ⟨_ + 2, h⟩ => absurd h (Nat.not_lt.2 (Nat.le_add_left _ _))
abbrev sem0_64 : Fin 2 → DmaSem sig := fun | 0 => cc0_sem64_0 | 1 => cc0_sem64_1 | ⟨_ + 2, h⟩ => absurd h (Nat.not_lt.2 (Nat.le_add_left _ _))
abbrev reads0_64 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x300 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== KernelIdeal.lean ====
variable {F : FTy → Type} [FloatOps F] [Named F]
def κ : String → Option EReal := fun
  | "eps2" => some ((5316911940649 / 5316911983139663491615228241121378304 : ℝ) : EReal)
  | _ => none
-- ==== ReferenceIdeal.lean ====
abbrev S1024 : Shape := ⟨1, ![1024]⟩
abbrev S100000x300 : Shape := ⟨2, ![100000, 300]⟩
abbrev S100000 : Shape := ⟨1, ![100000]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x300 : Shape := ⟨2, ![1024, 300]⟩
abbrev S300x100000 : Shape := ⟨2, ![300, 100000]⟩
abbrev S1024x100000 : Shape := ⟨2, ![1024, 100000]⟩
abbrev S1x100000 : Shape := ⟨2, ![1, 100000]⟩

abbrev nBuf : Space → Nat
  | .hbm => 48
  | .vmem => 0
  | .smem => 0
  | _ => 0

abbrev bufTy : (tb : Table) → Fin (tcTables nBuf tb) → BufTy
  | .hbm, ⟨0, _⟩ => ⟨S1024, .i32⟩
  | .hbm, ⟨1, _⟩ => ⟨S100000x300, .f32⟩
  | .hbm, ⟨2, _⟩ => ⟨S100000x300, .f32⟩
  | .hbm, ⟨3, _⟩ => ⟨S100000, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1, .i32⟩
  | .hbm, ⟨13, _⟩ => ⟨S_, .i32⟩
  | .hbm, ⟨14, _⟩ => ⟨S1024x1, .i32⟩
  | .hbm, ⟨15, _⟩ => ⟨S1024x1, .i1⟩
  | .hbm, ⟨16, _⟩ => ⟨S1x1, .i32⟩
  | .hbm, ⟨17, _⟩ => ⟨S1024x1, .i32⟩
  | .hbm, ⟨18, _⟩ => ⟨S1024x1, .i1⟩
  | .hbm, ⟨19, _⟩ => ⟨S1024x1, .i1⟩
  | .hbm, ⟨20, _⟩ => ⟨S_, .i1⟩
  | .hbm, ⟨21, _⟩ => ⟨S1024, .i1⟩
  | .hbm, ⟨22, _⟩ => ⟨S1024x300, .f32⟩
  | .hbm, ⟨23, _⟩ => ⟨S1024x300, .i1⟩
  | .hbm, ⟨24, _⟩ => ⟨S_, .f32⟩
  | .hbm, ⟨25, _⟩ => ⟨S1024x300, .f32⟩
  | .hbm, ⟨26, _⟩ => ⟨S1024x300, .f32⟩
  | .hbm, ⟨27, _⟩ => ⟨S1024x300, .f32⟩
  | .hbm, ⟨28, _⟩ => ⟨S_, .f32⟩
  | .hbm, ⟨29, _⟩ => ⟨S1024, .f32⟩
  | .hbm, ⟨30, _⟩ => ⟨S1024x1, .f32⟩
  | .hbm, ⟨31, _⟩ => ⟨S1024x1, .f32⟩
  | .hbm, ⟨32, _⟩ => ⟨S_, .f32⟩
  | .hbm, ⟨33, _⟩ => ⟨S1024x1, .f32⟩
  | .hbm, ⟨34, _⟩ => ⟨S1024x1, .f32⟩
  | .hbm, ⟨35, _⟩ => ⟨S_, .f32⟩
  | .hbm, ⟨36, _⟩ => ⟨S1024x1, .f32⟩
  | .hbm, ⟨37, _⟩ => ⟨S1024x1, .f32⟩
  | .hbm, ⟨38, _⟩ => ⟨S_, .f32⟩
  | .hbm, ⟨39, _⟩ => ⟨S1024x1, .f32⟩
  | .hbm, ⟨40, _⟩ => ⟨S1024x1, .f32⟩
  | .hbm, ⟨41, _⟩ => ⟨S1024x300, .f32⟩
  | .hbm, ⟨42, _⟩ => ⟨S1024x300, .f32⟩
  | .hbm, ⟨43, _⟩ => ⟨S300x100000, .f32⟩
  | .hbm, ⟨44, _⟩ => ⟨S1024x100000, .f32⟩
  | .hbm, ⟨45, _⟩ => ⟨S1x100000, .f32⟩
  | .hbm, ⟨46, _⟩ => ⟨S1024x100000, .f32⟩
  | .hbm, ⟨47, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_v0 : Ref sig .tc := ⟨.hbm, 27, rfl⟩
abbrev main_call1_cst : Ref sig .tc := ⟨.hbm, 28, rfl⟩
abbrev main_call1_v1 : Ref sig .tc := ⟨.hbm, 29, rfl⟩
abbrev main_call1_v2 : Ref sig .tc := ⟨.hbm, 30, rfl⟩
abbrev main_v1 : Ref sig .tc := ⟨.hbm, 31, rfl⟩
abbrev main_cst : Ref sig .tc := ⟨.hbm, 32, rfl⟩
abbrev main_v2 : Ref sig .tc := ⟨.hbm, 33, rfl⟩
abbrev main_v3 : Ref sig .tc := ⟨.hbm, 34, rfl⟩
abbrev main_cst_0 : Ref sig .tc := ⟨.hbm, 35, rfl⟩
abbrev main_v4 : Ref sig .tc := ⟨.hbm, 36, rfl⟩
abbrev main_v5 : Ref sig .tc := ⟨.hbm, 37, rfl⟩
abbrev main_cst_1 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩

abbrev nD : Nat := 1
abbrev τ : Topo := Topo.v7x

variable {F : FTy → Type} [FloatOps F]
-- ==== Proof.Exact.Gather.lean ====
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.VecWindow

@[expose] public section

set_option maxRecDepth 16384

noncomputable section

namespace Cert.KernelIdeal.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-! # The body of the gathering call

The body loads the sixty-four staged rows, one after the other, and stores one tile made of them. -/

/-- The sixty-four row buffers of the gathering call, as one family: those of the slots `s`. -/
abbrev rowMem (s : (w : Fin 65) → Fin (spec0 w).nbuf) : Fin 64 → Memref sig .tc .vmem S1x1x300 .f32 :=
  fun
  | 0 => spec0_0.stage (s 0)
  | 1 => spec0_1.stage (s 1)
  | 2 => spec0_2.stage (s 2)
  | 3 => spec0_3.stage (s 3)
  | 4 => spec0_4.stage (s 4)
  | 5 => spec0_5.stage (s 5)
  | 6 => spec0_6.stage (s 6)
  | 7 => spec0_7.stage (s 7)
  | 8 => spec0_8.stage (s 8)
  | 9 => spec0_9.stage (s 9)
  | 10 => spec0_10.stage (s 10)
  | 11 => spec0_11.stage (s 11)
  | 12 => spec0_12.stage (s 12)
  | 13 => spec0_13.stage (s 13)
  | 14 => spec0_14.stage (s 14)
  | 15 => spec0_15.stage (s 15)
  | 16 => spec0_16.stage (s 16)
  | 17 => spec0_17.stage (s 17)
  | 18 => spec0_18.stage (s 18)
  | 19 => spec0_19.stage (s 19)
  | 20 => spec0_20.stage (s 20)
  | 21 => spec0_21.stage (s 21)
  | 22 => spec0_22.stage (s 22)
  | 23 => spec0_23.stage (s 23)
  | 24 => spec0_24.stage (s 24)
  | 25 => spec0_25.stage (s 25)
  | 26 => spec0_26.stage (s 26)
  | 27 => spec0_27.stage (s 27)
  | 28 => spec0_28.stage (s 28)
  | 29 => spec0_29.stage (s 29)
  | 30 => spec0_30.stage (s 30)
  | 31 => spec0_31.stage (s 31)
  | 32 => spec0_32.stage (s 32)
  | 33 => spec0_33.stage (s 33)
  | 34 => spec0_34.stage (s 34)
  | 35 => spec0_35.stage (s 35)
  | 36 => spec0_36.stage (s 36)
  | 37 => spec0_37.stage (s 37)
  | 38 => spec0_38.stage (s 38)
  | 39 => spec0_39.stage (s 39)
  | 40 => spec0_40.stage (s 40)
  | 41 => spec0_41.stage (s 41)
  | 42 => spec0_42.stage (s 42)
  | 43 => spec0_43.stage (s 43)
  | 44 => spec0_44.stage (s 44)
  | 45 => spec0_45.stage (s 45)
  | 46 => spec0_46.stage (s 46)
  | 47 => spec0_47.stage (s 47)
  | 48 => spec0_48.stage (s 48)
  | 49 => spec0_49.stage (s 49)
  | 50 => spec0_50.stage (s 50)
  | 51 => spec0_51.stage (s 51)
  | 52 => spec0_52.stage (s 52)
  | 53 => spec0_53.stage (s 53)
  | 54 => spec0_54.stage (s 54)
  | 55 => spec0_55.stage (s 55)
  | 56 => spec0_56.stage (s 56)
  | 57 => spec0_57.stage (s 57)
  | 58 => spec0_58.stage (s 58)
  | 59 => spec0_59.stage (s 59)
  | 60 => spec0_60.stage (s 60)
  | 61 => spec0_61.stage (s 61)
  | 62 => spec0_62.stage (s 62)
  | 63 => spec0_63.stage (s 63)
  | ⟨_ + 64, h⟩ => absurd h (Nat.not_lt.2 (Nat.le_add_left _ _))

/-- Each of them is a whole buffer. -/
theorem rowMem_whole (s : (w : Fin 65) → Fin (spec0 w).nbuf) : ∀ j, (rowMem s j).IsWhole :=
  fun
  | 0 => hstage0_0 ((s 0).cast nbuf0_0)
  | 1 => hstage0_1 ((s 1).cast nbuf0_1)
  | 2 => hstage0_2 ((s 2).cast nbuf0_2)
  | 3 => hstage0_3 ((s 3).cast nbuf0_3)
  | 4 => hstage0_4 ((s 4).cast nbuf0_4)
  | 5 => hstage0_5 ((s 5).cast nbuf0_5)
  | 6 => hstage0_6 ((s 6).cast nbuf0_6)
  | 7 => hstage0_7 ((s 7).cast nbuf0_7)
  | 8 => hstage0_8 ((s 8).cast nbuf0_8)
  | 9 => hstage0_9 ((s 9).cast nbuf0_9)
  | 10 => hstage0_10 ((s 10).cast nbuf0_10)
  | 11 => hstage0_11 ((s 11).cast nbuf0_11)
  | 12 => hstage0_12 ((s 12).cast nbuf0_12)
  | 13 => hstage0_13 ((s 13).cast nbuf0_13)
  | 14 => hstage0_14 ((s 14).cast nbuf0_14)
  | 15 => hstage0_15 ((s 15).cast nbuf0_15)
  | 16 => hstage0_16 ((s 16).cast nbuf0_16)
  | 17 => hstage0_17 ((s 17).cast nbuf0_17)
  | 18 => hstage0_18 ((s 18).cast nbuf0_18)
  | 19 => hstage0_19 ((s 19).cast nbuf0_19)
  | 20 => hstage0_20 ((s 20).cast nbuf0_20)
  | 21 => hstage0_21 ((s 21).cast nbuf0_21)
  | 22 => hstage0_22 ((s 22).cast nbuf0_22)
  | 23 => hstage0_23 ((s 23).cast nbuf0_23)
  | 24 => hstage0_24 ((s 24).cast nbuf0_24)
  | 25 => hstage0_25 ((s 25).cast nbuf0_25)
  | 26 => hstage0_26 ((s 26).cast nbuf0_26)
  | 27 => hstage0_27 ((s 27).cast nbuf0_27)
  | 28 => hstage0_28 ((s 28).cast nbuf0_28)
  | 29 => hstage0_29 ((s 29).cast nbuf0_29)
  | 30 => hstage0_30 ((s 30).cast nbuf0_30)
  | 31 => hstage0_31 ((s 31).cast nbuf0_31)
  | 32 => hstage0_32 ((s 32).cast nbuf0_32)
  | 33 => hstage0_33 ((s 33).cast nbuf0_33)
  | 34 => hstage0_34 ((s 34).cast nbuf0_34)
  | 35 => hstage0_35 ((s 35).cast nbuf0_35)
  | 36 => hstage0_36 ((s 36).cast nbuf0_36)
  | 37 => hstage0_37 ((s 37).cast nbuf0_37)
  | 38 => hstage0_38 ((s 38).cast nbuf0_38)
  | 39 => hstage0_39 ((s 39).cast nbuf0_39)
  | 40 => hstage0_40 ((s 40).cast nbuf0_40)
  | 41 => hstage0_41 ((s 41).cast nbuf0_41)
  | 42 => hstage0_42 ((s 42).cast nbuf0_42)
  | 43 => hstage0_43 ((s 43).cast nbuf0_43)
  | 44 => hstage0_44 ((s 44).cast nbuf0_44)
  | 45 => hstage0_45 ((s 45).cast nbuf0_45)
  | 46 => hstage0_46 ((s 46).cast nbuf0_46)
  | 47 => hstage0_47 ((s 47).cast nbuf0_47)
  | 48 => hstage0_48 ((s 48).cast nbuf0_48)
  | 49 => hstage0_49 ((s 49).cast nbuf0_49)
  | 50 => hstage0_50 ((s 50).cast nbuf0_50)
  | 51 => hstage0_51 ((s 51).cast nbuf0_51)
  | 52 => hstage0_52 ((s 52).cast nbuf0_52)
  | 53 => hstage0_53 ((s 53).cast nbuf0_53)
  | 54 => hstage0_54 ((s 54).cast nbuf0_54)
  | 55 => hstage0_55 ((s 55).cast nbuf0_55)
  | 56 => hstage0_56 ((s 56).cast nbuf0_56)
  | 57 => hstage0_57 ((s 57).cast nbuf0_57)
  | 58 => hstage0_58 ((s 58).cast nbuf0_58)
  | 59 => hstage0_59 ((s 59).cast nbuf0_59)
  | 60 => hstage0_60 ((s 60).cast nbuf0_60)
  | 61 => hstage0_61 ((s 61).cast nbuf0_61)
  | 62 => hstage0_62 ((s 62).cast nbuf0_62)
  | 63 => hstage0_63 ((s 63).cast nbuf0_63)
  | ⟨_ + 64, h⟩ => absurd h (Nat.not_lt.2 (Nat.le_add_left _ _))

/-- The tile the body stores, from the sixty-four rows it loads. -/
def tile (x : Fin 64 → Vec F S1x1x300 .f32) : FVec F S64x300 .bf16 :=
  k0_pay2 (k0_pay1 (k0_pay3 (x 0)) (k0_pay4 (x 1)) (k0_pay5 (x 2)) (k0_pay6 (x 3)) (k0_pay7 (x 4)) (k0_pay8 (x 5)) (k0_pay9 (x 6)) (k0_pay10 (x 7)) (k0_pay11 (x 8)) (k0_pay12 (x 9)) (k0_pay13 (x 10)) (k0_pay14 (x 11)) (k0_pay15 (x 12)) (k0_pay16 (x 13)) (k0_pay17 (x 14)) (k0_pay18 (x 15)) (k0_pay19 (x 16)) (k0_pay20 (x 17)) (k0_pay21 (x 18)) (k0_pay22 (x 19)) (k0_pay23 (x 20)) (k0_pay24 (x 21)) (k0_pay25 (x 22)) (k0_pay26 (x 23)) (k0_pay27 (x 24)) (k0_pay28 (x 25)) (k0_pay29 (x 26)) (k0_pay30 (x 27)) (k0_pay31 (x 28)) (k0_pay32 (x 29)) (k0_pay33 (x 30)) (k0_pay34 (x 31)) (k0_pay35 (x 32)) (k0_pay36 (x 33)) (k0_pay37 (x 34)) (k0_pay38 (x 35)) (k0_pay39 (x 36)) (k0_pay40 (x 37)) (k0_pay41 (x 38)) (k0_pay42 (x 39)) (k0_pay43 (x 40)) (k0_pay44 (x 41)) (k0_pay45 (x 42)) (k0_pay46 (x 43)) (k0_pay47 (x 44)) (k0_pay48 (x 45)) (k0_pay49 (x 46)) (k0_pay50 (x 47)) (k0_pay51 (x 48)) (k0_pay52 (x 49)) (k0_pay53 (x 50)) (k0_pay54 (x 51)) (k0_pay55 (x 52)) (k0_pay56 (x 53)) (k0_pay57 (x 54)) (k0_pay58 (x 55)) (k0_pay59 (x 56)) (k0_pay60 (x 57)) (k0_pay61 (x 58)) (x 59) (x 60) (x 61) (x 62) (x 63))

/-- The sixty-four row buffers held whole at the contents `x`. -/
abbrev rowsHeld (c : Dev nD) (arg : Fin 64 → Memref sig .tc .vmem S1x1x300 .f32) (x : Fin 64 → Vec F S1x1x300 .f32) : sProp 𝕄 :=
  bigSep Finset.univ fun j => owns (c : Thread nD τ) (arg j) fullShare (x j)

/-- Row `j`'s buffer, and the others. -/
theorem rows_take (c : Dev nD) (arg : Fin 64 → Memref sig .tc .vmem S1x1x300 .f32) (x : Fin 64 → Vec F S1x1x300 .f32) (j : Fin 64) :
    rowsHeld c arg x = iprop(owns (c : Thread nD τ) (arg j) fullShare (x j)
      ∗ bigSep (Finset.univ.erase j) fun j => owns (c : Thread nD τ) (arg j) fullShare (x j)) :=
  bigSep_erase (Finset.mem_univ j)

/-- Loading row `j` whole, the rows held, continues at the row's contents with the rows still held. -/
theorem load_row (c : Dev nD) (arg : Fin 64 → Memref sig .tc .vmem S1x1x300 .f32) (x : Fin 64 → Vec F S1x1x300 .f32)
    {R : sProp 𝕄} {E : Set ℕ} {α : Type} {Q : α → sProp 𝕄} (j : Fin 64)
    {hl : (arg j).view.LoadsAt (Rect.unit (s := S1x1x300) ![0, 0, 0] S1x1x300.size inb_S1x1x300_S1x1x300_0_0_0).toLoadRect}
    {k : Vec F S1x1x300 .f32 → Prog (TpuEff nD τ sig (Elt F) Λ₀ .tc) α}
    (h : iprop(rowsHeld c arg x ∗ R) ⊢ wp frame (wpE (defs₀ (F := F)) Variants.none c none) E (k (x j)) Q) :
    iprop(rowsHeld c arg x ∗ R) ⊢ wp frame (wpE (defs₀ (F := F)) Variants.none c none) E
      (.op (.load (arg j) (Rect.unit (s := S1x1x300) ![0, 0, 0] S1x1x300.size inb_S1x1x300_S1x1x300_0_0_0).toLoadRect hl) k) Q := by
  refine (sep_mono_left (Entails.of_eq (rows_take c arg x j))).trans ?_
  rw [show owns (c : Thread nD τ) (arg j) fullShare (x j) = iprop(∃ f, ⌜(arg j).view.read (Elt F) f = x j⌝ ∗ ((arg j).view.loc (c : Thread nD τ) ↦[(arg j).view.set]{fullShare} f)) from rfl]
  iintro ⟨⟨⟨%f, %hf, Hj⟩, Hrest⟩, HR⟩
  iapply (wp_load_rect (defs := defs₀ (F := F)) Variants.none (c : Thread nD τ) none E (m := arg j) (hl := hl) (k := k) (Q := Q)
    (S := (arg j).view.set) (q := fullShare) (f := f) (View.set_slice_subset _ _)) $$ Hj
  iintro Hj
  rw [show ((arg j).access (Rect.unit (s := S1x1x300) ![0, 0, 0] S1x1x300.size inb_S1x1x300_S1x1x300_0_0_0)).read (Elt F) f = x j from ?_]
  · iapply h
    isplitl [Hj Hrest]
    · iapply (Entails.of_eq (rows_take c arg x j).symm)
      isplitl [Hj]
      · unfold owns
        iexists f
        isplitr
        · ipureintro; exact hf
        iexact Hj
      iexact Hrest
    iexact HR
  · exact (View.readAt_full (arg j).view f inb_S1x1x300_S1x1x300_0_0_0).trans hf

set_option maxHeartbeats 4000000 in
/-- The body's triple: the rows held at `x` and the output buffer held at anything, the body runs to the continuation
    that finds the rows as they were and the output buffer at the tile of `x`. -/
theorem body_wp (c : Dev nD) (i : grid0.Coords) (tb : Memref sig .tc .smem S1024 .i32) (htb : tb.IsWhole)
    (arg : Fin 64 → Memref sig .tc .vmem S1x1x300 .f32) (harg : ∀ j, (arg j).IsWhole)
    (out : Memref sig .tc .vmem S64x300 .bf16) (hout : out.IsWhole)
    (x : Fin 64 → Vec F S1x1x300 .f32) (y : Vec F S64x300 .bf16) (E : Set ℕ) (K : PUnit → sProp 𝕄) :
    iprop(rowsHeld c arg x ∗ owns (c : Thread nD τ) out fullShare y
        ∗ (iprop(rowsHeld c arg x ∗ owns (c : Thread nD τ) out fullShare (tile x)) -∗ K ⟨⟩))
      ⊢ wp frame (wpE (defs₀ (F := F)) Variants.none c none) E
        (cc0__gather_body i tb htb (arg 0) (harg 0) (arg 1) (harg 1) (arg 2) (harg 2) (arg 3) (harg 3) (arg 4) (harg 4) (arg 5) (harg 5) (arg 6) (harg 6) (arg 7) (harg 7) (arg 8) (harg 8) (arg 9) (harg 9) (arg 10) (harg 10) (arg 11) (harg 11) (arg 12) (harg 12) (arg 13) (harg 13) (arg 14) (harg 14) (arg 15) (harg 15) (arg 16) (harg 16) (arg 17) (harg 17) (arg 18) (harg 18) (arg 19) (harg 19) (arg 20) (harg 20) (arg 21) (harg 21) (arg 22) (harg 22) (arg 23) (harg 23) (arg 24) (harg 24) (arg 25) (harg 25) (arg 26) (harg 26) (arg 27) (harg 27) (arg 28) (harg 28) (arg 29) (harg 29) (arg 30) (harg 30) (arg 31) (harg 31) (arg 32) (harg 32) (arg 33) (harg 33) (arg 34) (harg 34) (arg 35) (harg 35) (arg 36) (harg 36) (arg 37) (harg 37) (arg 38) (harg 38) (arg 39) (harg 39) (arg 40) (harg 40) (arg 41) (harg 41) (arg 42) (harg 42) (arg 43) (harg 43) (arg 44) (harg 44) (arg 45) (harg 45) (arg 46) (harg 46) (arg 47) (harg 47) (arg 48) (harg 48) (arg 49) (harg 49) (arg 50) (harg 50) (arg 51) (harg 51) (arg 52) (harg 52) (arg 53) (harg 53) (arg 54) (harg 54) (arg 55) (harg 55) (arg 56) (harg 56) (arg 57) (harg 57) (arg 58) (harg 58) (arg 59) (harg 59) (arg 60) (harg 60) (arg 61) (harg 61) (arg 62) (harg 62) (arg 63) (harg 63) out hout) K := by
  simp only [cc0__gather_body_eq_skeleton]; unfold cc0__gather_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  iterate 64 refine load_row c arg x _ ?_
  dsimp only [Prog.bind]
  unfold owns
  iintro ⟨HB, ⟨%f, %hf, H⟩, Hk⟩
  obtain rfl := hout.eq_unread hf
  sl_exec
  sl_step
  iapply Hk
  isplitl [HB]; · iexact HB
  iexists _
  isplitr
  rotate_left
  · iexact H
  ipureintro
  exact (View.read_writes_full _ _ inb_S64x300_S64x300_0_0 _ _).trans rfl

end Cert.KernelIdeal.Gather

end
-- ==== Proof.Exact.GatherData.lean ====
module

public import proofs.«01_k».proof.Proof.Exact.Gather
public import Idealize.ShloMosaic.Lib.Pipeline.Frame

@[expose] public section

set_option maxRecDepth 16384

noncomputable section

namespace Cert.KernelIdeal.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! # What the gathering call does, point by point -/

/-- The table of row numbers, as the call finds it. -/
def tbl : pre0.Contents (Elt F) := fun j => V1 m (0 : Dev nD) (pre0.ref j)

/-- Every row number read off the table names a row of the embedding. -/
abbrev Ok : Prop := ok0 (F := F) (tbl m)

variable (hO : Ok m)

/-- The call's windows at the table's contents. -/
abbrev cfgT : Cfg sig Λ₀ := cfg0 ⟨tbl m, hO⟩

/-- What window `w` fetches at point `t`: a block of its array as the call finds it. -/
def iblk (c : Dev nD) (w : Fin (cfgT m hO).W) (t : Fin (cfgT m hO).N) :
    (((cfgT m hO).win w).block).Idx → Elt F ((cfgT m hO).win w).elt :=
  (((cfgT m hO).win w).blk t).view.read (Elt F) (V1 m c (Pipeline.arrRef spec0 w))

/-- The sixty-four rows fetched at point `t`. -/
def rowBlk (c : Dev nD) (t : Fin (cfgT m hO).N) : Fin 64 → Vec F S1x1x300 .f32 :=
  fun
  | 0 => iblk m hO c 0 t
  | 1 => iblk m hO c 1 t
  | 2 => iblk m hO c 2 t
  | 3 => iblk m hO c 3 t
  | 4 => iblk m hO c 4 t
  | 5 => iblk m hO c 5 t
  | 6 => iblk m hO c 6 t
  | 7 => iblk m hO c 7 t
  | 8 => iblk m hO c 8 t
  | 9 => iblk m hO c 9 t
  | 10 => iblk m hO c 10 t
  | 11 => iblk m hO c 11 t
  | 12 => iblk m hO c 12 t
  | 13 => iblk m hO c 13 t
  | 14 => iblk m hO c 14 t
  | 15 => iblk m hO c 15 t
  | 16 => iblk m hO c 16 t
  | 17 => iblk m hO c 17 t
  | 18 => iblk m hO c 18 t
  | 19 => iblk m hO c 19 t
  | 20 => iblk m hO c 20 t
  | 21 => iblk m hO c 21 t
  | 22 => iblk m hO c 22 t
  | 23 => iblk m hO c 23 t
  | 24 => iblk m hO c 24 t
  | 25 => iblk m hO c 25 t
  | 26 => iblk m hO c 26 t
  | 27 => iblk m hO c 27 t
  | 28 => iblk m hO c 28 t
  | 29 => iblk m hO c 29 t
  | 30 => iblk m hO c 30 t
  | 31 => iblk m hO c 31 t
  | 32 => iblk m hO c 32 t
  | 33 => iblk m hO c 33 t
  | 34 => iblk m hO c 34 t
  | 35 => iblk m hO c 35 t
  | 36 => iblk m hO c 36 t
  | 37 => iblk m hO c 37 t
  | 38 => iblk m hO c 38 t
  | 39 => iblk m hO c 39 t
  | 40 => iblk m hO c 40 t
  | 41 => iblk m hO c 41 t
  | 42 => iblk m hO c 42 t
  | 43 => iblk m hO c 43 t
  | 44 => iblk m hO c 44 t
  | 45 => iblk m hO c 45 t
  | 46 => iblk m hO c 46 t
  | 47 => iblk m hO c 47 t
  | 48 => iblk m hO c 48 t
  | 49 => iblk m hO c 49 t
  | 50 => iblk m hO c 50 t
  | 51 => iblk m hO c 51 t
  | 52 => iblk m hO c 52 t
  | 53 => iblk m hO c 53 t
  | 54 => iblk m hO c 54 t
  | 55 => iblk m hO c 55 t
  | 56 => iblk m hO c 56 t
  | 57 => iblk m hO c 57 t
  | 58 => iblk m hO c 58 t
  | 59 => iblk m hO c 59 t
  | 60 => iblk m hO c 60 t
  | 61 => iblk m hO c 61 t
  | 62 => iblk m hO c 62 t
  | 63 => iblk m hO c 63 t
  | ⟨_ + 64, h⟩ => absurd h (Nat.not_lt.2 (Nat.le_add_left _ _))

/-- The proof data of the call on core `c`: its arrays as the call finds them; after the body at point `t` every row buffer
    holds its block and the output buffer holds the tile of those rows; the tables whole beside the invariant; nothing
    owed. -/
def dat (c : Dev nD) : Dat τ (Elt F) Unit ℕ (UR sig nD τ) ℕ (cfgT m hO) c where
  A w := V1 m c (Pipeline.arrRef spec0 w)
  after w t := if h : w = (64 : Fin 65) then
      (show ((cfgT m hO).win w).block.Idx → Elt F ((cfgT m hO).win w).elt from by subst h; exact tile (rowBlk m hO c t))
    else iblk m hO c w t
  Φ _ := iprop(Pipeline.ΦA spec0 c ∗ Pipeline.prefHeld pre0 c (fun _ => fullShare) (tbl m))
  q w := Pipeline.shareOf spec0 w
  owed _ := 0

theorem after_out (c : Dev nD) (t : Fin (cfgT m hO).N) : (dat m hO c).after (64 : Fin 65) t = tile (rowBlk m hO c t) := by
  unfold dat; dsimp only; exact dif_pos rfl

theorem after_row (c : Dev nD) (w : Fin (cfgT m hO).W) (h : w ≠ (64 : Fin 65)) (t : Fin (cfgT m hO).N) :
    (dat m hO c).after w t = iblk m hO c w t := by
  unfold dat; dsimp only; exact dif_neg h

/-- Every window but the last is an input. -/
theorem isIn : ∀ w : Fin 65, w ≠ 64 → (spec0 w).isOut = false := by decide

/-- An input window's buffer holds its block whenever the body runs. -/
theorem before_row (c : Dev nD) (w : Fin (cfgT m hO).W) (h : w ≠ (64 : Fin 65)) (t : Fin (cfgT m hO).N) (d) :
    (dat m hO c).before w t d = iblk m hO c w t :=
  ((dat m hO c).before_in_eq_fetched w (isIn w h) (fun _ => rfl) (fun _ _ _ => rfl)
    (fun t => by rw [after_row m hO c w h]; rfl) t d).trans ((Pipeline.fill_of_clip_none w _ (fun _ => rfl) d (iblk m hO c w t) _).trans (Window.fill_cut _ _ _))

/-- A star over sixty-five indices is the star over the first sixty-four beside the last. -/
theorem bigSep_split {M : Type} [URA M] (Φ : Fin 65 → sProp M) :
    bigSep Finset.univ Φ = iprop((bigSep Finset.univ fun j : Fin 64 => Φ j.castSucc) ∗ Φ 64) := by
  have h : (Finset.univ : Finset (Fin 65)) = insert (Fin.last 64) (Finset.univ.map Fin.castSuccEmb) := by
    rw [Fin.univ_castSuccEmb, Finset.cons_eq_insert]
  rw [h, bigSep_insert (fun h => by
    obtain ⟨x, -, hx⟩ := Finset.mem_map.mp h
    exact absurd hx (Fin.castSucc_lt_last x).ne), bigSep_map]
  exact Entails.antisymm BI.sep_comm BI.sep_comm

/-- The row buffers of the windows are the row buffers as one family. -/
theorem rows_eq (c : Dev nD) (t : Fin (cfgT m hO).N) (j : Fin 64) :
    (owns (c : Thread nD τ) (((cfgT m hO).win j.castSucc).stage ((cfgT m hO).slots t j.castSucc)) fullShare (iblk m hO c j.castSucc t) : sProp 𝕄)
      = owns (c : Thread nD τ) (rowMem ((cfgT m hO).slots t) j) fullShare (rowBlk m hO c t j) := by
  fin_cases j <;> rfl

/-- A row buffer the pipeline hands the body holds its row. -/
theorem handed_row (c : Dev nD) (t : Fin (cfgT m hO).N) (j : Fin 64) :
    iprop(∃ d, owns (c : Thread nD τ) (((cfgT m hO).win j.castSucc).stage ((cfgT m hO).slots t j.castSucc)) fullShare ((dat m hO c).before j.castSucc t d))
      ⊢ (owns (c : Thread nD τ) (rowMem ((cfgT m hO).slots t) j) fullShare (rowBlk m hO c t j) : sProp 𝕄) := by
  iintro ⟨%d, H⟩
  iapply (Entails.of_eq ((congrArg _ (before_row m hO c j.castSucc (Fin.castSucc_lt_last j).ne t d)).trans (rows_eq m hO c t j)))
  iexact H

/-- The output buffer the pipeline hands the body holds something. -/
theorem handed_out (c : Dev nD) (t : Fin (cfgT m hO).N) :
    iprop(∃ d, owns (c : Thread nD τ) (((cfgT m hO).win (64 : Fin 65)).stage ((cfgT m hO).slots t 64)) fullShare ((dat m hO c).before (64 : Fin 65) t d))
      ⊢ (iprop(∃ d, owns (c : Thread nD τ) (spec0_64.stage ((cfgT m hO).slots t 64)) fullShare d) : sProp 𝕄) := by
  iintro ⟨%d, H⟩
  iexists _
  iexact H

/-- What the pipeline hands the body is the sixty-four rows and the output buffer at anything. -/
theorem handed (c : Dev nD) (t : Fin (cfgT m hO).N) :
    (bigSep Finset.univ fun w : Fin (cfgT m hO).W =>
        iprop(∃ d, owns (c : Thread nD τ) (((cfgT m hO).win w).stage ((cfgT m hO).slots t w)) fullShare ((dat m hO c).before w t d)) : sProp 𝕄)
      ⊢ iprop(rowsHeld c (rowMem ((cfgT m hO).slots t)) (rowBlk m hO c t)
          ∗ ∃ d, owns (c : Thread nD τ) (spec0_64.stage ((cfgT m hO).slots t 64)) fullShare d) := by
  refine (Entails.of_eq (bigSep_split _)).trans (BI.sep_mono (bigSep_mono fun j _ => ?_) ?_)
  · exact handed_row m hO c t j
  · exact handed_out m hO c t

/-- What the body leaves is what the proof data say it leaves. -/
theorem returned (c : Dev nD) (t : Fin (cfgT m hO).N) :
    iprop(rowsHeld c (rowMem ((cfgT m hO).slots t)) (rowBlk m hO c t)
        ∗ owns (c : Thread nD τ) (spec0_64.stage ((cfgT m hO).slots t 64)) fullShare (tile (rowBlk m hO c t)))
      ⊢ (bigSep Finset.univ fun w : Fin (cfgT m hO).W =>
        owns (c : Thread nD τ) (((cfgT m hO).win w).stage ((cfgT m hO).slots t w)) fullShare ((dat m hO c).after w t) : sProp 𝕄) := by
  refine (BI.sep_mono (bigSep_mono fun j _ => ?_) ?_).trans (Entails.of_eq (bigSep_split _).symm)
  · rw [after_row m hO c j.castSucc (Fin.castSucc_lt_last j).ne t, rows_eq m hO c t j]; exact BI.Entails.refl _
  · rw [after_out m hO c t]; exact BI.Entails.refl _

/-- The body the call runs at a point, its row buffers read as one family. -/
theorem row_body (t : Fin (cfgT m hO).N) :
    defs₀ (F := F) .tc (cfgT m hO).body ((cfgT m hO).bodyArgs t ((cfgT m hO).slots t)) = cc0__gather_body (grid0.coords t) (Memref.whole main_arg0) (Memref.isWhole_whole _) (rowMem ((cfgT m hO).slots t) 0) (rowMem_whole ((cfgT m hO).slots t) 0) (rowMem ((cfgT m hO).slots t) 1) (rowMem_whole ((cfgT m hO).slots t) 1) (rowMem ((cfgT m hO).slots t) 2) (rowMem_whole ((cfgT m hO).slots t) 2) (rowMem ((cfgT m hO).slots t) 3) (rowMem_whole ((cfgT m hO).slots t) 3) (rowMem ((cfgT m hO).slots t) 4) (rowMem_whole ((cfgT m hO).slots t) 4) (rowMem ((cfgT m hO).slots t) 5) (rowMem_whole ((cfgT m hO).slots t) 5) (rowMem ((cfgT m hO).slots t) 6) (rowMem_whole ((cfgT m hO).slots t) 6) (rowMem ((cfgT m hO).slots t) 7) (rowMem_whole ((cfgT m hO).slots t) 7) (rowMem ((cfgT m hO).slots t) 8) (rowMem_whole ((cfgT m hO).slots t) 8) (rowMem ((cfgT m hO).slots t) 9) (rowMem_whole ((cfgT m hO).slots t) 9) (rowMem ((cfgT m hO).slots t) 10) (rowMem_whole ((cfgT m hO).slots t) 10) (rowMem ((cfgT m hO).slots t) 11) (rowMem_whole ((cfgT m hO).slots t) 11) (rowMem ((cfgT m hO).slots t) 12) (rowMem_whole ((cfgT m hO).slots t) 12) (rowMem ((cfgT m hO).slots t) 13) (rowMem_whole ((cfgT m hO).slots t) 13) (rowMem ((cfgT m hO).slots t) 14) (rowMem_whole ((cfgT m hO).slots t) 14) (rowMem ((cfgT m hO).slots t) 15) (rowMem_whole ((cfgT m hO).slots t) 15) (rowMem ((cfgT m hO).slots t) 16) (rowMem_whole ((cfgT m hO).slots t) 16) (rowMem ((cfgT m hO).slots t) 17) (rowMem_whole ((cfgT m hO).slots t) 17) (rowMem ((cfgT m hO).slots t) 18) (rowMem_whole ((cfgT m hO).slots t) 18) (rowMem ((cfgT m hO).slots t) 19) (rowMem_whole ((cfgT m hO).slots t) 19) (rowMem ((cfgT m hO).slots t) 20) (rowMem_whole ((cfgT m hO).slots t) 20) (rowMem ((cfgT m hO).slots t) 21) (rowMem_whole ((cfgT m hO).slots t) 21) (rowMem ((cfgT m hO).slots t) 22) (rowMem_whole ((cfgT m hO).slots t) 22) (rowMem ((cfgT m hO).slots t) 23) (rowMem_whole ((cfgT m hO).slots t) 23) (rowMem ((cfgT m hO).slots t) 24) (rowMem_whole ((cfgT m hO).slots t) 24) (rowMem ((cfgT m hO).slots t) 25) (rowMem_whole ((cfgT m hO).slots t) 25) (rowMem ((cfgT m hO).slots t) 26) (rowMem_whole ((cfgT m hO).slots t) 26) (rowMem ((cfgT m hO).slots t) 27) (rowMem_whole ((cfgT m hO).slots t) 27) (rowMem ((cfgT m hO).slots t) 28) (rowMem_whole ((cfgT m hO).slots t) 28) (rowMem ((cfgT m hO).slots t) 29) (rowMem_whole ((cfgT m hO).slots t) 29) (rowMem ((cfgT m hO).slots t) 30) (rowMem_whole ((cfgT m hO).slots t) 30) (rowMem ((cfgT m hO).slots t) 31) (rowMem_whole ((cfgT m hO).slots t) 31) (rowMem ((cfgT m hO).slots t) 32) (rowMem_whole ((cfgT m hO).slots t) 32) (rowMem ((cfgT m hO).slots t) 33) (rowMem_whole ((cfgT m hO).slots t) 33) (rowMem ((cfgT m hO).slots t) 34) (rowMem_whole ((cfgT m hO).slots t) 34) (rowMem ((cfgT m hO).slots t) 35) (rowMem_whole ((cfgT m hO).slots t) 35) (rowMem ((cfgT m hO).slots t) 36) (rowMem_whole ((cfgT m hO).slots t) 36) (rowMem ((cfgT m hO).slots t) 37) (rowMem_whole ((cfgT m hO).slots t) 37) (rowMem ((cfgT m hO).slots t) 38) (rowMem_whole ((cfgT m hO).slots t) 38) (rowMem ((cfgT m hO).slots t) 39) (rowMem_whole ((cfgT m hO).slots t) 39) (rowMem ((cfgT m hO).slots t) 40) (rowMem_whole ((cfgT m hO).slots t) 40) (rowMem ((cfgT m hO).slots t) 41) (rowMem_whole ((cfgT m hO).slots t) 41) (rowMem ((cfgT m hO).slots t) 42) (rowMem_whole ((cfgT m hO).slots t) 42) (rowMem ((cfgT m hO).slots t) 43) (rowMem_whole ((cfgT m hO).slots t) 43) (rowMem ((cfgT m hO).slots t) 44) (rowMem_whole ((cfgT m hO).slots t) 44) (rowMem ((cfgT m hO).slots t) 45) (rowMem_whole ((cfgT m hO).slots t) 45) (rowMem ((cfgT m hO).slots t) 46) (rowMem_whole ((cfgT m hO).slots t) 46) (rowMem ((cfgT m hO).slots t) 47) (rowMem_whole ((cfgT m hO).slots t) 47) (rowMem ((cfgT m hO).slots t) 48) (rowMem_whole ((cfgT m hO).slots t) 48) (rowMem ((cfgT m hO).slots t) 49) (rowMem_whole ((cfgT m hO).slots t) 49) (rowMem ((cfgT m hO).slots t) 50) (rowMem_whole ((cfgT m hO).slots t) 50) (rowMem ((cfgT m hO).slots t) 51) (rowMem_whole ((cfgT m hO).slots t) 51) (rowMem ((cfgT m hO).slots t) 52) (rowMem_whole ((cfgT m hO).slots t) 52) (rowMem ((cfgT m hO).slots t) 53) (rowMem_whole ((cfgT m hO).slots t) 53) (rowMem ((cfgT m hO).slots t) 54) (rowMem_whole ((cfgT m hO).slots t) 54) (rowMem ((cfgT m hO).slots t) 55) (rowMem_whole ((cfgT m hO).slots t) 55) (rowMem ((cfgT m hO).slots t) 56) (rowMem_whole ((cfgT m hO).slots t) 56) (rowMem ((cfgT m hO).slots t) 57) (rowMem_whole ((cfgT m hO).slots t) 57) (rowMem ((cfgT m hO).slots t) 58) (rowMem_whole ((cfgT m hO).slots t) 58) (rowMem ((cfgT m hO).slots t) 59) (rowMem_whole ((cfgT m hO).slots t) 59) (rowMem ((cfgT m hO).slots t) 60) (rowMem_whole ((cfgT m hO).slots t) 60) (rowMem ((cfgT m hO).slots t) 61) (rowMem_whole ((cfgT m hO).slots t) 61) (rowMem ((cfgT m hO).slots t) 62) (rowMem_whole ((cfgT m hO).slots t) 62) (rowMem ((cfgT m hO).slots t) 63) (rowMem_whole ((cfgT m hO).slots t) 63) (spec0_64.stage ((cfgT m hO).slots t 64)) (hstage0_64 (((cfgT m hO).slots t 64).cast nbuf0_64)) := by
  unfold defs₀; rw [Defs.onTc_tc]

/-- The body at point `t`, from the rows and the output buffer to the rows and the tile. -/
theorem body_sound (c : Dev nD) (t : Fin (cfgT m hO).N) :
    iprop((dat m hO c).Φ t.castSucc ∗ (dat m hO c).owesAt () t.castSucc
        ∗ rowsHeld c (rowMem ((cfgT m hO).slots t)) (rowBlk m hO c t)
        ∗ ∃ d, owns (c : Thread nD τ) (spec0_64.stage ((cfgT m hO).slots t 64)) fullShare d)
      ⊢ wp frame (wpE (defs₀ (F := F)) Variants.none c none) Set.univ
          (defs₀ (F := F) .tc (cfgT m hO).body ((cfgT m hO).bodyArgs t ((cfgT m hO).slots t)))
          (fun _ => iprop((dat m hO c).Φ t.succ ∗ (dat m hO c).owesAt () t.succ
            ∗ rowsHeld c (rowMem ((cfgT m hO).slots t)) (rowBlk m hO c t)
            ∗ owns (c : Thread nD τ) (spec0_64.stage ((cfgT m hO).slots t 64)) fullShare (tile (rowBlk m hO c t)))) := by
  rw [row_body m hO t, show (dat m hO c).Φ t.succ = (dat m hO c).Φ t.castSucc from rfl,
    show (dat m hO c).owesAt () t.succ = (dat m hO c).owesAt () t.castSucc from rfl]
  iintro ⟨HΦ, Ho, HR, ⟨%d, HO⟩⟩
  iapply (body_wp c (grid0.coords t) (Memref.whole main_arg0) (Memref.isWhole_whole _) (rowMem ((cfgT m hO).slots t))
    (rowMem_whole ((cfgT m hO).slots t)) (spec0_64.stage ((cfgT m hO).slots t 64)) (hstage0_64 (((cfgT m hO).slots t 64).cast nbuf0_64))
    (rowBlk m hO c t) d Set.univ _)
  isplitl [HR]; · iexact HR
  isplitl [HO]; · iexact HO
  iintro ⟨HR, HO⟩
  isplitl [HΦ]; · iexact HΦ
  isplitl [Ho]; · iexact Ho
  isplitl [HR]; · iexact HR
  iexact HO

/-- The body does at every point what the proof data say. -/
theorem body_obligation (c : Dev nD) : BodyObligation (dat m hO c) (defs₀ (F := F)) Variants.none () Set.univ := fun t =>
  (BI.sep_mono (BI.Entails.refl _) (BI.sep_mono (BI.Entails.refl _) (handed m hO c t))).trans
    ((body_sound m hO c t).trans (wp_mono _ _ _ fun _ => BI.sep_mono (BI.Entails.refl _) (BI.sep_mono (BI.Entails.refl _) (returned m hO c t))))

end Cert.KernelIdeal.Gather

end
-- ==== Proof.Exact.Proj.lean ====
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.VecWindow

@[expose] public section

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-! # The body of the projecting call

The body loads the normalized rows, a block of the weights and a block of the bias, and stores one block of the
result. -/

/-- The body's triple: the three inputs held at `x`, `wt`, `b` and the output buffer held at anything, the body runs to
    the continuation that finds the inputs as they were and the output buffer at the product of `x` and `wt` plus
    the bias `b`. -/
theorem body_wp (c : Dev nD) (i : grid1.Coords)
    (a1 : Memref sig .tc .vmem S1024x300 .bf16) (ha1 : a1.IsWhole) (a2 : Memref sig .tc .vmem S2048x300 .f32) (ha2 : a2.IsWhole)
    (a3 : Memref sig .tc .vmem S2048 .f32) (ha3 : a3.IsWhole) (a4 : Memref sig .tc .vmem S1024x2048 .f32) (ha4 : a4.IsWhole)
    (x : Vec F S1024x300 .bf16) (wt : Vec F S2048x300 .f32) (b : Vec F S2048 .f32) (y : Vec F S1024x2048 .f32)
    (E : Set ℕ) (K : PUnit → sProp 𝕄) :
    iprop(owns (c : Thread nD τ) a1 fullShare x ∗ owns (c : Thread nD τ) a2 fullShare wt ∗ owns (c : Thread nD τ) a3 fullShare b
        ∗ owns (c : Thread nD τ) a4 fullShare y
        ∗ (iprop(owns (c : Thread nD τ) a1 fullShare x ∗ owns (c : Thread nD τ) a2 fullShare wt ∗ owns (c : Thread nD τ) a3 fullShare b
            ∗ owns (c : Thread nD τ) a4 fullShare (k1_pay1 x wt b)) -∗ K ⟨⟩))
      ⊢ wp frame (wpE (defs₀ (F := F)) Variants.none c none) E (cc1__proj_body i a1 ha1 a2 ha2 a3 ha3 a4 ha4) K := by
  simp only [cc1__proj_body_eq_skeleton]; unfold cc1__proj_body_skel
  unfold owns
  iintro ⟨⟨%f1, %h1, H1⟩, ⟨%f2, %h2, H2⟩, ⟨%f3, %h3, H3⟩, ⟨%f4, %h4, H4⟩, Hk⟩
  obtain rfl := ha1.eq_unread h1; obtain rfl := ha2.eq_unread h2; obtain rfl := ha3.eq_unread h3; obtain rfl := ha4.eq_unread h4
  sl_exec
  sl_step
  iapply Hk
  isplitl [H1]
  · iexists _; isplitr; · ipureintro; exact ha1.read_unread _
    iexact H1
  isplitl [H2]
  · iexists _; isplitr; · ipureintro; exact ha2.read_unread _
    iexact H2
  isplitl [H3]
  · iexists _; isplitr; · ipureintro; exact ha3.read_unread _
    iexact H3
  iexists _
  isplitr
  rotate_left
  · iexact H4
  ipureintro
  refine (View.read_writes_full _ _ inb_S1024x2048_S1024x2048_0_0 _ _).trans ?_
  rw [View.readAt_full _ _ inb_S1024x300_S1024x300_0_0, View.readAt_full _ _ inb_S2048x300_S2048x300_0_0,
    View.readAt_full _ _ inb_S2048_S2048_0, ha1.read_unread, ha2.read_unread, ha3.read_unread]

end Cert.KernelIdeal.Proj

end
-- ==== Proof.Exact.ProjData.lean ====
module

public import proofs.«01_k».proof.Proof.Exact.Proj
public import Idealize.ShloMosaic.Lib.Pipeline.Frame

@[expose] public section

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation)
open Cert.KernelIdeal.Gen

variable {F : FTy → Type} [FloatOps F] [Named F]

local notation "𝕄" => MT nD τ sig Unit (Elt F) ℕ (UR sig nD τ) ℕ

variable (V : Dev nD → Valuation τ sig (Elt F))

/-! # What the projecting call does, point by point

The last block of the weights, of the bias and of the result reaches past the end of its array: the staging buffers
then hold anything on the rows past the end, and the product may depend on them there. So what the body leaves in the
result's buffer is stated as a relation: the product with SOME completion of the blocks. -/

/-- The part of window `w`'s block at point `t` that lies inside its array. -/
def part (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The normalized rows: the whole of the first array. -/
abbrev rows (c : Dev nD) (t : Fin cfg1.N) : Vec F S1024x300 .bf16 := part V c 0 t

/-- What the body may leave in window `w`'s buffer, given what it found there: an input's buffer as it was; in the
    result's the product of the rows with some completion of the blocks of the weights and the bias. -/
def leaves (c : Dev nD) : (w : Fin cfg1.W) → (t : Fin cfg1.N) → (Y X : (cfg1.win w).block.Idx → Elt F (cfg1.win w).elt) → Prop
  | ⟨0, _⟩, _, Y, X => X = Y
  | ⟨1, _⟩, _, Y, X => X = Y
  | ⟨2, _⟩, _, Y, X => X = Y
  | ⟨3, _⟩, t, _, X => ∃ (dw : S2048x300.Idx → Elt F .f32) (db : S2048.Idx → Elt F .f32),
      X = k1_pay1 (rows V c t) ((cfg1.win 1).fill (cfg1.grid.coords t) dw (part V c 1 t)) ((cfg1.win 2).fill (cfg1.grid.coords t) db (part V c 2 t))

/-- The proof data of the call on core `c`: its arrays as the call finds them, what the body leaves by `leaves`, nothing
    owed. -/
def rdat (c : Dev nD) : RDat τ (Elt F) Unit ℕ (UR sig nD τ) ℕ cfg1 c where
  A w := V c (Pipeline.arrRef spec1 w)
  after := leaves V c
  Φ _ := Pipeline.ΦA spec1 c
  q _ := fullShare
  owed _ := 0

/-- What the body finds in the rows' buffer: the rows. -/
theorem finds_rows (c : Dev nD) (t : Fin cfg1.N) (Y) (h : (rdat V c).Finds 0 t Y) : Y = rows V c t := by
  obtain ⟨d, rfl⟩ := (rdat V c).finds_in_eq_fetched 0 rfl (fun _ _ _ => rfl) (fun _ _ _ h => h) t Y h
  rfl

/-- What the body finds in the weights' buffer: some completion of the block. -/
theorem finds_weights (c : Dev nD) (t : Fin cfg1.N) (Y) (h : (rdat V c).Finds 1 t Y) :
    ∃ d, Y = (cfg1.win 1).fill (cfg1.grid.coords t) d (part V c 1 t) :=
  ((rdat V c).finds_of_fetch (fetch1_1 t) Y).mp h

/-- What the body finds in the bias's buffer: some completion of the block. -/
theorem finds_bias (c : Dev nD) (t : Fin cfg1.N) (Y) (h : (rdat V c).Finds 2 t Y) :
    ∃ d, Y = (cfg1.win 2).fill (cfg1.grid.coords t) d (part V c 2 t) :=
  ((rdat V c).finds_of_fetch (fetch1_2 t) Y).mp h

/-- The body the call runs at a point. -/
theorem row_body (t : Fin cfg1.N) :
    defs₀ (F := F) .tc cfg1.body (cfg1.bodyArgs t (cfg1.slots t)) = bodyAt1 t := by
  unfold defs₀; rw [Defs.onTc_tc]

/-- The body at point `t`, from the four buffers as found to the four buffers as left. -/
theorem body_sound (c : Dev nD) (t : Fin cfg1.N) (Y : (w : Fin cfg1.W) → (cfg1.win w).block.Idx → Elt F (cfg1.win w).elt)
    (hY : ∀ w, (rdat V c).Finds w t (Y w)) :
    iprop((rdat V c).Φ t.castSucc ∗ (rdat V c).owesAt () t.castSucc
        ∗ owns (c : Thread nD τ) (st1_0 t) fullShare (Y 0) ∗ owns (c : Thread nD τ) (st1_1 t) fullShare (Y 1)
        ∗ owns (c : Thread nD τ) (st1_2 t) fullShare (Y 2) ∗ owns (c : Thread nD τ) (st1_3 t) fullShare (Y 3))
      ⊢ wp frame (wpE (defs₀ (F := F)) Variants.none c none) Set.univ
          (defs₀ (F := F) .tc cfg1.body (cfg1.bodyArgs t (cfg1.slots t)))
          (fun _ => iprop((rdat V c).Φ t.succ ∗ (rdat V c).owesAt () t.succ
            ∗ (∃ X, ⌜(rdat V c).after 0 t (Y 0) X⌝ ∗ owns (c : Thread nD τ) (st1_0 t) fullShare X)
            ∗ (∃ X, ⌜(rdat V c).after 1 t (Y 1) X⌝ ∗ owns (c : Thread nD τ) (st1_1 t) fullShare X)
            ∗ (∃ X, ⌜(rdat V c).after 2 t (Y 2) X⌝ ∗ owns (c : Thread nD τ) (st1_2 t) fullShare X)
            ∗ (∃ X, ⌜(rdat V c).after 3 t (Y 3) X⌝ ∗ owns (c : Thread nD τ) (st1_3 t) fullShare X))) := by
  have h0 := finds_rows V c t _ (hY 0)
  obtain ⟨dw, h1⟩ := finds_weights V c t _ (hY 1)
  obtain ⟨db, h2⟩ := finds_bias V c t _ (hY 2)
  rw [row_body t, show (rdat V c).Φ t.succ = (rdat V c).Φ t.castSucc from rfl,
    show (rdat V c).owesAt () t.succ = (rdat V c).owesAt () t.castSucc from rfl]
  iintro ⟨HΦ, Ho, H0, H1, H2, H3⟩
  iapply (body_wp c (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2))
    (hstage1_2 ((cfg1.slots t 2).cast nbuf1_2)) (win1_3.stage (cfg1.slots t 3)) (hstage1_3 ((cfg1.slots t 3).cast nbuf1_3))
    (Y 0) (Y 1) (Y 2) (Y 3) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]
  · iexists (Y 0)
    isplitr; · ipureintro; exact rfl
    iexact H0
  isplitl [H1]
  · iexists (Y 1)
    isplitr; · ipureintro; exact rfl
    iexact H1
  isplitl [H2]
  · iexists (Y 2)
    isplitr; · ipureintro; exact rfl
    iexact H2
  iexists (k1_pay1 (Y 0) (Y 1) (Y 2))
  isplitr
  · ipureintro
    exact ⟨dw, db, by rw [h0, h1, h2]⟩
  iexact H3

/-- The body does at every point what the proof data say. -/
theorem body_obligation (c : Dev nD) : (rdat V c).BodyObligation (defs₀ (F := F)) Variants.none () Set.univ := fun t Y hY =>
  (BI.sep_mono (BI.Entails.refl _) (BI.sep_mono (BI.Entails.refl _) (Entails.of_eq (bigSep_W1 _)))).trans
    ((body_sound V c t Y hY).trans (wp_mono _ _ _ fun _ =>
      BI.sep_mono (BI.Entails.refl _) (BI.sep_mono (BI.Entails.refl _) (Entails.of_eq (bigSep_W1
        (fun w : Fin cfg1.W => iprop(∃ X, ⌜(rdat V c).after w t (Y w) X⌝ ∗ owns (c : Thread nD τ) ((cfg1.win w).stage (cfg1.slots t w)) fullShare X))).symm))))

end Cert.KernelIdeal.Proj

end
-- ==== Proof.Exact.Run.lean ====
module

public import proofs.«01_k».proof.Proof.Exact.GatherData
public import proofs.«01_k».proof.Proof.Exact.ProjData
public import Idealize.ShloMosaic.Lib.Pipeline.FrameSuffix
public import Idealize.ShloMosaic.Lib.Pipeline.RegionsLoop

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation)
open Cert.KernelIdeal.Gen
open Cert.KernelIdeal.Gather (tbl Ok cfgT)

variable {F : FTy → Type} [FloatOps F] [Named F]

local notation "𝕄" => MT nD τ sig Unit (Elt F) ℕ (UR sig nD τ) ℕ

variable (m : (ℓ : Loc nD τ sig) → Buf (Elt F) ℓ) (hO : Ok m)

/-! # The two calls, one after the other -/

/-! ## The contents of the buffers between the calls -/

/-- The buffers after the gathering call: the arrays of its windows as its write-backs leave them, the others as before. -/
def mid (c : Dev nD) : Valuation τ sig (Elt F) :=
  Pipeline.withArrays spec0 c (V1 m c) fun w => (Gather.dat m hO c).arrAt w (cfgT m hO).N

/-- What the gathering call's arrays hold after it. -/
theorem mid_arr (c : Dev nD) (w : Fin (cfgT m hO).W) :
    (Gather.dat m hO c).arrAt w (cfgT m hO).N = mid m hO c (Proc.devRef .tc (Pipeline.arrRef spec0 w)) :=
  ((Gather.dat m hO c).withArrays_arrAt (launch₀0 (F := F)).sharedIn _ (fun _ => rfl) w).symm

/-- A buffer behind none of its windows is as before the call. -/
theorem mid_rest (c : Dev nD) (b : Ref sig .tc) (h : b ∉ Finset.univ.image (Pipeline.arrRef spec0)) :
    mid m hO c (Proc.devRef .tc b) = V1 m c b :=
  Pipeline.withArrays_of_ne spec0 c _ _ b fun w e => h (Finset.mem_image.mpr ⟨w, Finset.mem_univ _, e⟩)

/-- The gathering call changes none of the four arguments. -/
theorem mid_arg (c : Dev nD) (b : Ref sig .tc) (h : b ∈ ([main_arg0, main_arg1, main_arg2, main_arg3] : List (Ref sig .tc))) :
    mid m hO c (Proc.devRef .tc b) = m ((c : Thread nD τ).loc b) :=
  (mid_rest m hO c b (by revert b; decide)).trans (V1_of m c b (by revert b; decide))

/-- The buffers at the end, when the projecting call leaves `o` in the result. -/
abbrev fin (c : Dev nD) (o : Buf (Elt F) ((c : Thread nD τ).loc main_v2)) : Valuation τ sig (Elt F) :=
  Function.update (mid m hO c) (Proc.devRef .tc main_v2) o

/-- Any other buffer is as the gathering call left it. -/
theorem fin_of (c : Dev nD) (o) (b : Ref sig .tc) (h : b ≠ main_v2) : fin m hO c o (Proc.devRef .tc b) = mid m hO c (Proc.devRef .tc b) :=
  Function.update_of_ne (StableHlo.devRef_ne_of_ne h) _ _

/-! ## The proof data of the two calls as one family -/

/-- The tables the calls are entered with: the row numbers for the first, none for the second. -/
abbrev adm : (p : Fin 2) → (pcfgs (F := F) p).Adm
  | ⟨0, _⟩ => ⟨tbl m, hO⟩
  | ⟨1, _⟩ => cfg1.toPCfg_adm

/-- The projecting call's proof data, at the contents the gathering call leaves. -/
abbrev rd1 (c : Dev nD) : RDat τ (Elt F) Unit ℕ (UR sig nD τ) ℕ cfg1 c := Proj.rdat (mid m hO) c

/-- The two calls' proof data. -/
def rdats : (p : Fin 2) → (c : Dev nD) → RDat τ (Elt F) Unit ℕ (UR sig nD τ) ℕ (Pipeline.pin (pcfgs (F := F)) (adm m hO) p) c
  | ⟨0, _⟩ => fun c => (Gather.dat m hO c).toR
  | ⟨1, _⟩ => fun c => rd1 m hO c

abbrev L : GSem nD τ sig → Finset Unit := fun _ => ∅
abbrev lv : GSem nD τ sig → Unit → ℕ := fun _ _ => 0

/-- What rides beside the buffers: the generator register at some state, and the core owing nothing. -/
abbrev R (c : Dev nD) : sProp 𝕄 := iprop((∃ r, prngReg c r) ∗ ∃ W, owes (c : Thread nD τ) (0 : CellTallies nD τ sig Unit) W)

/-! ## The first call's arrays and table, out of the buffers and back -/

/-- The buffers split into the gathering call's arrays, its table, and the rest. -/
theorem entry0 (c : Dev nD) :
    (StableHlo.held (c : Thread nD τ) (Pipeline.ucRefs τ sig) (V1 m c) : sProp 𝕄)
      ⊢ iprop((Gather.dat m hO c).arrays ((Gather.dat m hO c).arrAt · 0) ∗ Pipeline.prefHeld pre0 c (fun _ => fullShare) (tbl m)
          ∗ Pipeline.unscopedRestP (Ix := Unit) (Name := ℕ) (U := UR sig nD τ) (Lvl := ℕ) pre0 spec0 c (fun b => V1 m c b)) := by
  obtain rfl : c = 0 := Subsingleton.elim _ _
  rw [← Pipeline.unscopedBufs_held, Pipeline.unscopedBufs_split₀ (Pipeline.pin (pcfgs (F := F)) (adm m hO)) 0 (launch₀0 (F := F)).win.arr_unscoped,
    Pipeline.unscopedRest_split (launch₀0 (F := F)).pre]
  exact BI.sep_mono ((Gather.dat m hO 0).arrays_split_shared (launch₀0 (F := F)).sharedIn (launch₀0 (F := F)).arr_whole (fun _ _ => rfl) (fun b => V1 m 0 b) _
    fun w => rfl) (BI.Entails.refl _)

/-- What is neither the gathering call's array nor its table makes, with the table, the rest of the buffers after it. -/
theorem exit0_rest :
    iprop(Pipeline.prefHeld pre0 (0 : Dev nD) (fun _ => fullShare) (tbl m)
          ∗ Pipeline.unscopedRestP (Ix := Unit) (Name := ℕ) (U := UR sig nD τ) (Lvl := ℕ) pre0 spec0 0 (fun b => V1 m 0 b))
      ⊢ (Pipeline.unscopedRest spec0 0 (fun b => mid m hO 0 b) : sProp 𝕄) := by
  have h : (Pipeline.unscopedRest spec0 0 (fun b => mid m hO 0 b) : sProp 𝕄) = Pipeline.unscopedRest spec0 0 (fun b => V1 m 0 b) := by
    unfold Pipeline.unscopedRest
    exact bigSep_congr fun b hb => congrArg _ (mid_rest m hO 0 b (Finset.mem_sdiff.mp hb).2)
  exact Entails.of_eq ((Pipeline.unscopedRest_split (launch₀0 (F := F)).pre (0 : Dev nD) (fun b => V1 m 0 b)).symm.trans h.symm)

/-- The arrays as the gathering call leaves them are the buffers behind its windows after it. -/
theorem exit0_arr (c : Dev nD) :
    ((Gather.dat m hO c).arrays ((Gather.dat m hO c).arrAt · (cfgT m hO).N) : sProp 𝕄) = Pipeline.arrBufs spec0 c (fun b => mid m hO c b) :=
  ((Gather.dat m hO c).arrBufs_eq_arrays (launch₀0 (F := F)).sharedIn (launch₀0 (F := F)).arr_whole (fun _ _ => rfl)
    (fun b => mid m hO c b) _ (fun w => mid_arr m hO c w)).symm

/-- The arrays as the gathering call leaves them, its table and the rest make the buffers after it. -/
theorem exit0 (c : Dev nD) :
    iprop((Gather.dat m hO c).arrays ((Gather.dat m hO c).arrAt · (cfgT m hO).N) ∗ Pipeline.prefHeld pre0 c (fun _ => fullShare) (tbl m)
          ∗ Pipeline.unscopedRestP (Ix := Unit) (Name := ℕ) (U := UR sig nD τ) (Lvl := ℕ) pre0 spec0 c (fun b => V1 m c b))
      ⊢ (StableHlo.held (c : Thread nD τ) (Pipeline.ucRefs τ sig) (mid m hO c) : sProp 𝕄) := by
  obtain rfl : c = 0 := Subsingleton.elim _ _
  rw [exit0_arr, ← Pipeline.unscopedBufs_held, Pipeline.unscopedBufs_split₀ (Pipeline.pin (pcfgs (F := F)) (adm m hO)) 0 (launch₀0 (F := F)).win.arr_unscoped]
  exact BI.sep_mono (BI.Entails.refl _) (exit0_rest m hO)

/-! ## The second call's arrays, out of the buffers and back -/

/-- The buffers split into the projecting call's arrays and the rest. -/
theorem entry1 (c : Dev nD) :
    (StableHlo.held (c : Thread nD τ) (Pipeline.ucRefs τ sig) (mid m hO c) : sProp 𝕄)
      ⊢ iprop((rd1 m hO c).arrays (rd1 m hO c).A
          ∗ Pipeline.unscopedRest (Ix := Unit) (Name := ℕ) (U := UR sig nD τ) (Lvl := ℕ) spec1 c (fun b => mid m hO c b)) := by
  rw [← Pipeline.unscopedBufs_held]
  exact Pipeline.RDat.arrays_of_unscopedBufs (p := 1) (pcfgs (F := F)) (adm m hO) (rdats m hO) (launch1 (F := F)).win (launch1 (F := F)).arr_whole c
    (fun w => by fin_cases w <;> rfl) (fun b => mid m hO c b) (fun _ => rfl)

/-- The projecting call's arrays as entered, but the result at `o`, and the rest make the buffers at the end. -/
theorem exit1_join (c : Dev nD) (o : Buf (Elt F) ((c : Thread nD τ).loc main_v2)) :
    iprop(((((c.tc : Thread nD τ).loc (Pipeline.arrRef spec1 0)) ↦{fullShare} (rd1 m hO c).A 0)
          ∗ (((c.tc : Thread nD τ).loc (Pipeline.arrRef spec1 1)) ↦{fullShare} (rd1 m hO c).A 1)
          ∗ (((c.tc : Thread nD τ).loc (Pipeline.arrRef spec1 2)) ↦{fullShare} (rd1 m hO c).A 2)
          ∗ (((c.tc : Thread nD τ).loc (Pipeline.arrRef spec1 3)) ↦{fullShare} o))
        ∗ Pipeline.unscopedRest (Ix := Unit) (Name := ℕ) (U := UR sig nD τ) (Lvl := ℕ) spec1 c (fun b => mid m hO c b))
      ⊢ (StableHlo.held (c : Thread nD τ) (Pipeline.ucRefs τ sig) (fin m hO c o) : sProp 𝕄) := by
  rw [← Pipeline.unscopedBufs_held, Pipeline.unscopedBufs_split (Pipeline.pin (pcfgs (F := F)) (adm m hO)) 1 (launch1 (F := F)).win.arr_unscoped
    (launch1 (F := F)).win.arr_inj]
  have e0 : fin m hO c o (Proc.devRef .tc main_v1) = mid m hO c (Proc.devRef .tc main_v1) := fin_of m hO c o main_v1 (by decide)
  have e1 : fin m hO c o (Proc.devRef .tc main_arg2) = mid m hO c (Proc.devRef .tc main_arg2) := fin_of m hO c o main_arg2 (by decide)
  have e2 : fin m hO c o (Proc.devRef .tc main_arg3) = mid m hO c (Proc.devRef .tc main_arg3) := fin_of m hO c o main_arg3 (by decide)
  have e3 : fin m hO c o (Proc.devRef .tc main_v2) = o := Function.update_self _ _ _
  have hr : (Pipeline.unscopedRest spec1 c (fun b => fin m hO c o b) : sProp 𝕄) = Pipeline.unscopedRest spec1 c (fun b => mid m hO c b) := by
    unfold Pipeline.unscopedRest
    exact bigSep_congr fun b hb => congrArg _ (fin_of m hO c o b fun e => (Finset.mem_sdiff.mp hb).2 (Finset.mem_image.mpr ⟨3, Finset.mem_univ _, e.symm⟩))
  have hw : iprop((((c.tc : Thread nD τ).loc (Pipeline.arrRef spec1 0)) ↦{fullShare} (rd1 m hO c).A 0)
          ∗ (((c.tc : Thread nD τ).loc (Pipeline.arrRef spec1 1)) ↦{fullShare} (rd1 m hO c).A 1)
          ∗ (((c.tc : Thread nD τ).loc (Pipeline.arrRef spec1 2)) ↦{fullShare} (rd1 m hO c).A 2)
          ∗ (((c.tc : Thread nD τ).loc (Pipeline.arrRef spec1 3)) ↦{fullShare} o))
      = bigSep Finset.univ fun w : Fin 4 =>
        (((c.tc : Thread nD τ).loc (Pipeline.arrRef spec1 w)) ↦{fullShare} fin m hO c o (Proc.devRef .tc (Pipeline.arrRef spec1 w)) : sProp 𝕄) := by
    refine Eq.trans ?_ (bigSep_W1 _).symm
    show _ = iprop((((c.tc : Thread nD τ).loc (Pipeline.arrRef spec1 0)) ↦{fullShare} fin m hO c o (Proc.devRef .tc main_v1))
      ∗ (((c.tc : Thread nD τ).loc (Pipeline.arrRef spec1 1)) ↦{fullShare} fin m hO c o (Proc.devRef .tc main_arg2))
    ∗ (((c.tc : Thread nD τ).loc (Pipeline.arrRef spec1 2)) ↦{fullShare} fin m hO c o (Proc.devRef .tc main_arg3))
    ∗ (((c.tc : Thread nD τ).loc (Pipeline.arrRef spec1 3)) ↦{fullShare} fin m hO c o (Proc.devRef .tc main_v2)))
    rw [e0, e1, e2, e3]
    rfl
  exact BI.sep_mono (Entails.of_eq hw) (Entails.of_eq hr.symm)

/-- The arrays as the projecting call may leave them and the rest make the buffers at the end, the result holding one of
    the contents the call may leave. -/
theorem exit1 (c : Dev nD) :
    iprop((rd1 m hO c).arraysAt cfg1.N
          ∗ Pipeline.unscopedRest (Ix := Unit) (Name := ℕ) (U := UR sig nD τ) (Lvl := ℕ) spec1 c (fun b => mid m hO c b))
      ⊢ (iprop(∃ o, ⌜(rd1 m hO c).ArrAt 3 cfg1.N o⌝ ∗ StableHlo.held (c : Thread nD τ) (Pipeline.ucRefs τ sig) (fin m hO c o)) : sProp 𝕄) := by
  have heq : (rd1 m hO c).arraysAt cfg1.N = bigSep Finset.univ fun w : Fin 4 =>
      iprop(∃ A, ⌜(rd1 m hO c).ArrAt w cfg1.N A⌝ ∗ (((c.tc : Thread nD τ).loc (Pipeline.arrRef spec1 w)) ↦{fullShare} A : sProp 𝕄)) :=
    Pipeline.RDat.arraysAt_eq (p := 1) (pcfgs (F := F)) (adm m hO) (rdats m hO) c (launch1 (F := F)).arr_whole
      (fun w => by fin_cases w <;> rfl) cfg1.N
  rw [heq, bigSep_W1]
  iintro ⟨⟨⟨%A0, %h0, H0⟩, ⟨%A1, %h1, H1⟩, ⟨%A2, %h2, H2⟩, ⟨%A3, %h3, H3⟩⟩, Hr⟩
  iexists A3
  isplitr; · ipureintro; exact h3
  rw [(rd1 m hO c).ArrAt_in 0 rfl] at h0
  rw [(rd1 m hO c).ArrAt_in 1 rfl] at h1
  rw [(rd1 m hO c).ArrAt_in 2 rfl] at h2
  subst h0 h1 h2
  iapply (exit1_join m hO c A3)
  isplitr [Hr]
  · isplitl [H0]; · iexact H0
    isplitl [H1]; · iexact H1
    isplitl [H2]; · iexact H2
    iexact H3
  iexact Hr

/-! ## The calls as segments -/

set_option backward.isDefEq.respectTransparency.types false in
/-- The gathering call, entered from every buffer as the host operation leaves it, left with every buffer at `mid`. -/
def reg0 : Pipeline.RDat.RegionSeg (pcfgs (F := F)) (adm m hO) (rdats m hO) () defs₀ Variants.none L lv 0 where
  win := (launch₀0 (F := F)).win
  block_pos := (launch₀0 (F := F)).block_pos
  stage_whole := (launch₀0 (F := F)).stage_whole
  K := PEmpty
  osem k := k.elim
  ho := Pipeline.OwnSemFacts.none _
  hbody c := (Gather.body_obligation m hO c).toR
  hwaits := Pipeline.RDat.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (mid m hO c) ∗ R c)
  X c := iprop(∃ r, prngReg c r)
  Y c := iprop((∃ r, prngReg c r) ∗ Pipeline.prefHeld pre0 c (fun _ => fullShare) (tbl m))
  Z c := Pipeline.unscopedRestP (Ix := Unit) (Name := ℕ) (U := UR sig nD τ) (Lvl := ℕ) pre0 spec0 c (fun b => V1 m c b)
  hentry c := by
    rw [Pipeline.ownSems0_none, show (rdats m hO 0 c).arrays (rdats m hO 0 c).A
      = (Gather.dat m hO c).arrays ((Gather.dat m hO c).arrAt · 0) from rfl]
    iintro ⟨⟨Hub, Hp, HO⟩, -, -⟩
    ihave H := (entry0 m hO c) $$ Hub
    icases H with ⟨Ha, Ht, Hrest⟩
    imodintro
    isplitl [Ha]; · iexact Ha
    isplitl [Ht]; · iexact Ht
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m hO 0 c).Φ 0 = iprop(Pipeline.ΦA spec0 c ∗ Pipeline.prefHeld pre0 c (fun _ => fullShare) (tbl m)) from rfl]
    unfold Pipeline.ΦA
    iintro ⟨Hp, Ht, Hr⟩
    isplitr [Ht]
    · isplitl [Hr]; · iexact Hr
      iexact Hp
    iexact Ht
  hout c := by
    rw [Pipeline.ownSems0_none, show (rdats m hO 0 c).Φ (Fin.last _) = iprop(Pipeline.ΦA spec0 c ∗ Pipeline.prefHeld pre0 c (fun _ => fullShare) (tbl m)) from rfl]
    unfold Pipeline.ΦA
    iintro ⟨⟨Hr, Hp⟩, Ht⟩
    isplitl [Hp Ht]
    · isplitl [Hp]; · iexact Hp
      iexact Ht
    isplitr; · iempintro
    iexact Hr
  hexit c := by
    rw [show (rdats m hO 0 c).arraysAt (Pipeline.pin (pcfgs (F := F)) (adm m hO) 0).N
      = (Gather.dat m hO c).arrays ((Gather.dat m hO c).arrAt · (cfgT m hO).N) from Pipeline.Dat.toR_arraysAt_eq _ _]
    iintro ⟨Ha, HO, ⟨Hp, Ht⟩, Hrest⟩
    imodintro
    isplitl [Ha Ht Hrest]
    · iapply (exit0 m hO c)
      isplitl [Ha]; · iexact Ha
      isplitl [Ht]; · iexact Ht
      iexact Hrest
    isplitl [Hp]; · iexact Hp
    unfold Pipeline.RDat.owesAt Pipeline.owesWithin
    icases HO with ⟨%W, -, HO⟩; iexists W; iexact HO

/-- The thread state at the end: the result holds one of the contents the projecting call may leave, every other buffer is as
    the gathering call left it. -/
abbrev last (c : Dev nD) : sProp 𝕄 :=
  iprop((∃ o, ⌜(rd1 m hO c).ArrAt 3 cfg1.N o⌝ ∗ StableHlo.held (c : Thread nD τ) (Pipeline.ucRefs τ sig) (fin m hO c o)) ∗ ∃ r, prngReg c r)

set_option backward.isDefEq.respectTransparency.types false in
/-- The projecting call, entered from every buffer at `mid`. -/
def reg1 : Pipeline.RDat.RegionSeg (pcfgs (F := F)) (adm m hO) (rdats m hO) () defs₀ Variants.none L lv 1 where
  win := (launch1 (F := F)).win.to₀
  block_pos := (launch1 (F := F)).block_pos
  stage_whole := (launch1 (F := F)).stage_whole
  K := PEmpty
  osem k := k.elim
  ho := Pipeline.OwnSemFacts.none _
  hbody c := Proj.body_obligation (mid m hO) c
  hwaits := Pipeline.RDat.hwaits_of_owed_zero _ _ _ _ L lv 1 fun _ _ => rfl
  pre c := iprop(StableHlo.held (c : Thread nD τ) (Pipeline.ucRefs τ sig) (mid m hO c) ∗ R c)
  post c := iprop(last m hO c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (fun b => mid m hO c b)
  hentry c := by
    rw [Pipeline.ownSems0_none]
    iintro ⟨⟨Hub, Hp, HO⟩, -, -⟩
    ihave H := (entry1 m hO c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m hO 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m hO 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit1 m hO c)
        isplitl [Ha]; · iexact Ha
        iexact Hrest
      iexact HY
    unfold Pipeline.RDat.owesAt Pipeline.owesWithin
    icases HO with ⟨%W, -, HO⟩; iexists W; iexact HO

/-! ## The whole run -/

/-- The program as its host operation and its two calls. -/
abbrev parts : List (Pipeline.RDat.Seg (pcfgs (F := F)) (adm m hO) (rdats m hO) () defs₀ Variants.none L lv) :=
  [.host (seg0 m Variants.none L lv fun _ c => R c), .region (reg0 m hO), .region (reg1 m hO)]

/-- An unscoped buffer is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- At the end an argument holds what it held at the launch. -/
theorem fin_arg (c : Dev nD) (o) (b : Ref sig .tc) (h : b ∈ ([main_arg0, main_arg1, main_arg2, main_arg3] : List (Ref sig .tc))) :
    fin m hO c o (Proc.devRef .tc b) = m ((c : Thread nD τ).loc b) :=
  (fin_of m hO c o b (by revert b; decide)).trans (mid_arg m hO c b h)

/-- The state of core `c`'s memory the run ends in: the arguments as launched, the result one the projecting call may leave. -/
def Ends (c : Dev nD) (s : MemSt nD τ sig (Elt F)) : Prop :=
  (∀ b ∈ ([main_arg0, main_arg1, main_arg2, main_arg3] : List (Ref sig .tc)), s.mem ((c.tc : Thread nD τ).loc b) = m ((c.tc : Thread nD τ).loc b))
    ∧ (rd1 m hO c).ArrAt 3 cfg1.N (s.mem ((c.tc : Thread nD τ).loc main_v2))

set_option backward.isDefEq.respectTransparency.types false in
/-- Every weakly fair run from zero counters, the row numbers in range, ends with nothing faulting in such a state, every
    counter at zero. -/
theorem run (ρ : Dev nD → PrngReg) : θ_run defs (onTc (τ := τ) (main (F := F))) ⟨m, fun _ => 0, ρ⟩ (fun r =>
    (∀ c : Dev nD, Ends m hO c r.2) ∧ r.2.sem = fun _ => 0) :=
  Pipeline.RDat.θ_run_regions_kit_sems (pcfgs (F := F)) (adm m hO) (rdats m hO) () (cellOf_inj (adm m hO)) emb₁ defs₀ Variants.none L lv m ρ main (parts m hO)
    (fun c Q => by
      rewrite [main_chain c, Pipeline.RDat.Seg.run_eq_chain,
        show (parts m hO).map Pipeline.RDat.Seg.prog = [
          StableHlo.seq hostOps0,
          Prog.lift (.customCall (Pipeline.entry 0) ()),
          Prog.lift (.customCall (Pipeline.entry 1) ()) ] from rfl]
      dsimp (config := { failIfUnchanged := false }) only
      exact .rfl)
    (by simp only [parts, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells (Pipeline.pin (pcfgs (F := F)) (adm m hO)) (cellOf_inj (adm m hO))) (Pipeline.launchToks (Pipeline.pin (pcfgs (F := F)) (adm m hO)) (cellOf_inj (adm m hO))))
    (hu₀ := by
      iintro Hu; imodintro
      isplitl [Hu]
      · iapply (show (ownU (initOf (Pipeline.cells (Pipeline.pin (pcfgs (F := F)) (adm m hO)) (cellOf_inj (adm m hO))) (Pipeline.launchToks (Pipeline.pin (pcfgs (F := F)) (adm m hO)) (cellOf_inj (adm m hO)))) : sProp 𝕄)
            ⊢ BI.own (emb₁ (initOf (Pipeline.cells (Pipeline.pin (pcfgs (F := F)) (adm m hO)) (cellOf_inj (adm m hO))) (Pipeline.launchToks (Pipeline.pin (pcfgs (F := F)) (adm m hO)) (cellOf_inj (adm m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := last m hO)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := Ends m hO)
    (hfin := fun c s' => by
      iintro ⟨⟨⟨%o, %ho, Hh⟩, -⟩, HSI⟩
      unfold StableHlo.held
      ihave Hr := (pointsTo_read_all (Pipeline.ucRefs τ sig) (fun b => (((c : Thread nD τ)).1, b)) (fin m hO c o) s') $$ [Hh HSI]
      · isplitl [Hh] <;> iassumption
      icases Hr with ⟨%h, HSI⟩
      imodintro
      isplitr
      · ipureintro
        refine ⟨fun b hb => (h _ (mem_uc b (by revert b; decide))).trans (fin_arg m hO c o b hb), ?_⟩
        have e : s'.mem.mem ((c.tc : Thread nD τ).loc main_v2) = o :=
          (h _ (mem_uc main_v2 (by decide))).trans (Function.update_self _ _ _)
        rw [e]; exact ho
      iexact HSI)
    (hQ := fun s h hz => ⟨h, funext fun g => hz g (.inr (regions_no_unscoped g.2))⟩)

end Cert.KernelIdeal.Run

end
-- ==== Proof.Exact.Table.lean ====
module

public import proofs.«01_k».proof.Proof.Exact.GatherData
public import proofs.«01_k».proof.Defs
public import proofs.«01_k».proof.Proof.Gen.Pre_in_vocab
public import Idealize.ShloMosaic.Lib.Affine
public import Idealize.ShloMosaic.Lib.ReduceAll

@[expose] public section

set_option maxRecDepth 16384

noncomputable section

namespace Cert.KernelIdeal.Table

open Idealize.ShloMosaic Idealize.ShloMosaic.TcCoe
open Cert.KernelIdeal.Gen

variable {F : FTy → Type} [FloatOps F] [Named F]

/-! # Which row each window fetches -/

/-- The place in the table that window `j` reads at point `i`: row `64 i + j` of the batch. -/
def place (i : grid0.Coords) (j : Fin 64) : S1024.Idx
  | ⟨0, _⟩ => ⟨64 * (i 0).val + j.val, by
      have h : (i 0).val < 16 := (i 0).isLt
      have := j.isLt
      show _ < 1024
      omega⟩

/-- The offset the index map computes is that place. -/
theorem off (i : grid0.Coords) (j : Fin 64) (a : Fin 1) : k0_off1 i (BitVec.ofNat 32 j.val) a = 64 * (i 0).val + j.val := by
  obtain rfl : a = 0 := Subsingleton.elim _ _
  have hi : (i 0).val < 16 := (i 0).isLt
  have hj : j.val < 64 := j.isLt
  have h1 : Affine.IsInt (BitVec.ofNat 32 j.val) ((j.val : Int)) := Affine.ofNat _ (by omega)
  have h2 : Affine.IsInt 64#32 (64) := Affine.ofNat _ (by omega)
  have h3 : Affine.IsInt (BitVec.ofNat 32 (i 0).val) (((i 0).val : Int)) := Affine.ofNat _ (by omega)
  have h4 : Affine.IsInt _ (64 * ((i 0).val : Int)) := Affine.muli h2 h3 (by omega)
  have h5 : Affine.IsInt _ (64 * ((i 0).val : Int) + (j.val : Int)) := Affine.addi h4 h1 (by omega)
  have h6 : Affine.IsInt _ (64 * ((i 0).val : Int) + (j.val : Int)) := Affine.indexCast h5
  exact Affine.nat_eq h6 _ (by push_cast; ring)

/-- The element the index map loads is the table's at that place. -/
theorem emb_eq (i : grid0.Coords) (j : Fin 64) (h : 0 < (Rect.unit (s := S1024) (k0_off1 i (BitVec.ofNat 32 j.val)) S1.size (k0_off1_inb i j)).shape.numel) :
    (Rect.unit (s := S1024) (k0_off1 i (BitVec.ofNat 32 j.val)) S1.size (k0_off1_inb i j)).emb (Shape.Idx.first h) = place i j := by
  funext a
  match a with
  | ⟨0, _⟩ =>
    apply Fin.ext
    have hz : (Shape.Idx.first h (0 : Fin 1)).val = 0 := by
      have := (Shape.Idx.first h (0 : Fin 1)).isLt
      change _ < 1 at this
      omega
    rw [Rect.emb_apply]
    show k0_off1 i (BitVec.ofNat 32 j.val) 0 + 1 * (Shape.Idx.first h (0 : Fin 1)).val = 64 * (i 0).val + j.val
    rw [off, hz, Nat.mul_zero, Nat.add_zero]

/-- A block whose number is in range lies inside the table of rows, and is moved by whole words. -/
theorem win_ok (f : grid0.Coords → Fin 3 → Nat) (hf : ∀ i, ∃ n < 100000, f i = ![n, 0, 0]) (i : grid0.Coords) :
    ∃ h : (∀ a, (f i a + 1) * S1x1x300.size a ≤ S100000x1x300.size a),
      EltTy.bits .f32 = 32 ∨ (Rect.block (s := S100000x1x300) S1x1x300.size (f i) h).WholeWords (EltTy.packing .f32) := by
  obtain ⟨n, hn, e⟩ := hf i
  refine ⟨fun a => ?_, Or.inl rfl⟩
  rw [e]
  match a with
  | ⟨0, _⟩ => show (n + 1) * 1 ≤ 100000; omega
  | ⟨1, _⟩ => show (0 + 1) * 1 ≤ 1; omega
  | ⟨2, _⟩ => show (0 + 1) * 300 ≤ 300; omega

/-- Row numbers in range admit the table. -/
theorem ok (pf : pre0.Contents (Elt F)) (h : ∀ x : S1024.Idx, (pf 0 x : BitVec 32).toNat < 100000) : ok0 (F := F) pf := by
  unfold ok0
  and_intros <;> exact win_ok _ fun i => ⟨_, h _, rfl⟩

/-- What the precondition says of a token: its word, as a natural, is below the number of rows. -/
theorem in_range (a0 : IVec S1024 32) (a1 : FVec F S100000x300 .f32) (a2 : FVec F S100000x300 .f32) (a3 : FVec F S100000 .f32)
    (h : Cert.Pre_in_vocab.fn (F := F) a0 a1 a2 a3 = fun _ => 1#1) (x : S1024.Idx) : (a0 x).toNat < 100000 := by
  have hs : Subsingleton Cert.Pre_in_vocab.S_.Idx := ⟨fun a b => funext fun d => d.elim0⟩
  have e := congrFun h (fun d => d.elim0)
  unfold Cert.Pre_in_vocab.fn at e
  have e1 := Host.reduce_andi_all _ _ _ _ _ e x
  obtain ⟨hge, hlt⟩ := IntOp.andi_eq_one.1 e1
  have h0 := IntOp.cmpi_sge.1 hge
  have h1 := IntOp.cmpi_slt.1 hlt
  simp only [broadcastInDim, constantI] at h0 h1
  rw [show (0#32 : BitVec 32).toInt = 0 from rfl] at h0
  rw [show (100000#32 : BitVec 32).toInt = 100000 from rfl] at h1
  have := BitVec.toInt_eq_toNat_of_msb (x := a0 x) (by rw [BitVec.msb_eq_toInt]; simpa using h0)
  omega

variable (m : (ℓ : Loc nD τ sig) → Buf (Elt F) ℓ)

/-- The table the gathering call reads is the tokens as launched. -/
theorem tbl_eq : Gather.tbl m 0 = m (((0 : Dev nD) : Thread nD τ).loc main_arg0) := V1_of m 0 main_arg0 (by decide)

/-- Tokens that are rows admit the table. -/
theorem ok_tokens (h : ∀ x : S1024.Idx, (m (((0 : Dev nD) : Thread nD τ).loc main_arg0) x : BitVec 32).toNat < 100000) : Gather.Ok m :=
  ok _ fun x => by rw [tbl_eq]; exact h x

end Cert.KernelIdeal.Table

end
-- ==== Proof.Frames.lean ====
/-
The frame claims: each of the three programs runs to the end, leaves its arguments alone and ends with every semaphore
counter at zero; and the statement that the idealized program only names one constant.
-/
module

public import proofs.«01_k».proof.Defs
public import proofs.«01_k».proof.Proof.Bits.Run
public import proofs.«01_k».proof.Proof.Bits.Table
public import proofs.«01_k».proof.Proof.Exact.Run
public import proofs.«01_k».proof.Proof.Exact.Table
public import proofs.«01_k».proof.Proof.Gen.ReferenceIdeal.Run
public import Idealize.ShloMosaic.Lib.Quiescent

@[expose] public section

noncomputable section

namespace Cert.Frames

open Idealize.ShloMosaic Idealize.SL.Sem

/-- The kernel's tokens all name table rows whenever the precondition holds of the launch memory. -/
theorem kernel_ok (m : (ℓ : Loc Kernel.nD Kernel.τ Kernel.sig) → Buf (Elt Bits) ℓ)
    (h : Pre_Kernel (hPre_in_vocab := Pre_in_vocab.Gen.facts) m) : Kernel.Gather.Ok m :=
  Kernel.Table.ok_tokens m fun x => Kernel.Table.in_range _ _ _ _ (h 0) x

/-- The idealized kernel's tokens all name table rows whenever the precondition holds of the launch memory. -/
theorem ideal_ok (m : (ℓ : Loc KernelIdeal.nD KernelIdeal.τ KernelIdeal.sig) → Buf (Elt Ideal) ℓ)
    (h : Pre_KernelIdeal (hPre_in_vocab := Pre_in_vocab.Gen.facts) m) : KernelIdeal.Gather.Ok m :=
  KernelIdeal.Table.ok_tokens m fun x => KernelIdeal.Table.in_range _ _ _ _ (h 0) x

/-- The kernel runs to the end from tokens in range, with its arguments unchanged and all counters zero. -/
theorem kernel : quiescent_Kernel (hKernel := Kernel.Gen.facts) (hPre_in_vocab := Pre_in_vocab.Gen.facts) :=
  fun m ρ h => (θ_run _ _ _).mono
    (fun _ e => ⟨fun c => ⟨(e.1 c).1 _ (by simp), (e.1 c).1 _ (by simp), (e.1 c).1 _ (by simp), (e.1 c).1 _ (by simp)⟩, e.2⟩)
    (Kernel.Run.run m (kernel_ok m h) ρ)

/-- The idealized kernel runs to the end from tokens in range, with its arguments unchanged and all counters zero. -/
theorem ideal : quiescent_KernelIdeal (hKernelIdeal := KernelIdeal.Gen.facts) (hPre_in_vocab := Pre_in_vocab.Gen.facts) :=
  fun m ρ h => (θ_run _ _ _).mono
    (fun _ e => ⟨fun c => ⟨(e.1 c).1 _ (by simp), (e.1 c).1 _ (by simp), (e.1 c).1 _ (by simp), (e.1 c).1 _ (by simp)⟩, e.2⟩)
    (KernelIdeal.Run.run m (ideal_ok m h) ρ)

/-- The reference runs to the end from any memory, with its arguments unchanged; it has no semaphore. -/
theorem reference : quiescent_ReferenceIdeal (hReferenceIdeal := ReferenceIdeal.Gen.facts) :=
  fun m ρ _ => (θ_run _ _ _).mono (fun r e => ⟨fun c => (e c).2, sem_eq_zero_of_no_sems rfl r.2⟩)
    (ReferenceIdeal.Value.run (F := Ideal) m ρ)

/-- The idealized program differs from the kernel by one constant, read under its name and within its rounding. -/
theorem preserves : preserves_Kernel_KernelIdeal :=
  IdealRules.named_const.statement KernelIdeal.κ "eps2" .f32 0x179ABE15#32
    ((5316911940649 / 5316911983139663491615228241121378304 : ℝ) : EReal) rfl

end Cert.Frames

end
-- ==== Proof.Value.Scale.lean ====
/-
The factor that clips a row's length at one, over the extended reals: the reference bounds the length from below by the
floor, the kernel the squared length by the floor's square.
-/
module

public import Idealize.ShloMosaic.PureOps.Ideal
public import Idealize.ShloMosaic.Lib.Pointwise.Tactic

@[expose] public section

noncomputable section

namespace Cert.Value

open Idealize.ShloMosaic

/-- The floor under a row's length: the float32 nearest to 10⁻¹². -/
def floor : EReal := ((2305843 / 2305843009213693952 : ℝ) : EReal)

/-- The floor under a row's squared length: the square of the other. -/
def floorSq : EReal := ((5316911940649 / 5316911983139663491615228241121378304 : ℝ) : EReal)

/-- The square root of the squared floor is the floor. -/
theorem sqrt_floorSq : Ideal.sqrt floorSq = floor := by
  unfold floorSq floor
  rw [Ideal.sqrt_coe, if_neg (by norm_num),
    show (5316911940649 / 5316911983139663491615228241121378304 : ℝ) = (2305843 / 2305843009213693952) ^ 2 by norm_num,
    Real.sqrt_sq (by norm_num)]

/-- The square root is monotone on the extended reals. -/
theorem sqrt_mono : Monotone Ideal.sqrt := by
  intro a b h
  induction a with
  | bot => exact bot_le
  | top => rw [top_le_iff.mp h]
  | coe a =>
    induction b with
    | bot => exact absurd h (not_le.mpr (EReal.bot_lt_coe a))
    | top => exact le_top
    | coe b =>
      have hab := EReal.coe_le_coe_iff.mp h
      rw [Ideal.sqrt_coe, Ideal.sqrt_coe]
      by_cases ha : a < 0
      · rw [if_pos ha]; exact bot_le
      · rw [if_neg ha, if_neg (by linarith)]
        exact EReal.coe_le_coe_iff.mpr (Real.sqrt_le_sqrt hab)

/-- Bounding the squared length by the squared floor bounds the length by the floor. -/
theorem sqrt_max (a : EReal) : Ideal.sqrt (max a floorSq) = max (Ideal.sqrt a) floor := by
  rw [sqrt_mono.map_max, sqrt_floorSq]

/-- The float word of the length's floor. -/
theorem floor_word : (Ideal.ofBits .f32 0x2B8CBCCC#32 : EReal) = floor := by
  unfold floor
  simp [Ideal.ofBits, Ideal.ieee]
  rw [← EReal.coe_mul]
  norm_num

/-- The factor a row `e` is scaled by. -/
def scale (e : Fin 300 → EReal) : EReal := min 1 (Ideal.div 1 (max (Ideal.sqrt (∑ k, e k * e k)) floor))

/-- A row `e`, clipped to length one. -/
def clip (e : Fin 300 → EReal) (k : Fin 300) : EReal := e k * scale e

/-- The row of the table `T` that the word `w` names; a word past the end names the last one. -/
def row (T : (⟨2, ![100000, 300]⟩ : Shape).Idx → EReal) (w : BitVec 32) (k : Fin 300) : EReal :=
  T (ix2 ⟨min w.toNat 99999, by omega⟩ k)

/-- The result: row `b`'s clipped embedding times row `v` of the weights, and the bias. -/
def result (I : (⟨1, ![1024]⟩ : Shape).Idx → BitVec 32) (T W : (⟨2, ![100000, 300]⟩ : Shape).Idx → EReal)
    (B : (⟨1, ![100000]⟩ : Shape).Idx → EReal) : (⟨2, ![1024, 100000]⟩ : Shape).Idx → EReal := fun i =>
  (∑ k : Fin 300, clip (row T (I (ix1 (i 0)))) k * W (ix2 (i 1) k)) + B (ix1 (i 1))

end Cert.Value

end
-- ==== Proof.Value.Tile.lean ====
/-
The tile the gathering call's body stores, over the extended reals: each of its rows clipped to length one.
-/
module

public import proofs.«01_k».proof.Proof.Exact.Gather
public import proofs.«01_k».proof.Proof.Value.Scale
public import Idealize.ShloMosaic.Lib.Pointwise

@[expose] public section

set_option maxRecDepth 16384

noncomputable section

namespace Cert.Value

open Idealize.ShloMosaic Cert.KernelIdeal Cert.KernelIdeal.Gen

/-- The sixty-four rows, each with its unit axes dropped, as a list. -/
abbrev pieces (x : Fin 64 → Vec Ideal S1x1x300 .f32) : List ((s : Shape) × (s.Idx → Ideal .f32)) :=
  List.ofFn fun j : Fin 64 => ⟨S1x300, shapeCast S1x300 (x j) shapeCasts_S1x1x300_S1x300⟩

/-- They stack up to the tile's shape. -/
theorem pieces_fit (x : Fin 64 → Vec Ideal S1x1x300 .f32) : Shape.Concatenates ((pieces x).map (·.1)) S64x300 0 := by
  have h : (pieces x).map (·.1) = List.replicate 64 S1x300 := by
    rw [List.map_ofFn]; exact List.ofFn_const _ _
  rw [h]
  exact concatenates_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S1x300_S64x300_d0

/-- The sixty-four rows stacked. -/
def stack (x : Fin 64 → Vec Ideal S1x1x300 .f32) : FVec Ideal S64x300 .f32 :=
  concatenate S64x300 0 (pieces x) (pieces_fit x)

/-- The body's tile is its arithmetic on the stacked rows. -/
theorem tile_eq (x : Fin 64 → Vec Ideal S1x1x300 .f32) : Gather.tile x = k0_pay2 (stack x) := by
  unfold Gather.tile stack pieces
  rfl

/-- A row of the stack. -/
theorem stack_apply (x : Fin 64 → Vec Ideal S1x1x300 .f32) (j : Fin 64) (k : Fin 300) :
    stack x (ix2 j k) = x j (ix3 0 0 k) := by
  unfold stack
  rw [concatenate_ofFn_unit_apply' _ _ _ rfl]
  pointwise

/-- The body's arithmetic on a stack of rows: each clipped to length one. -/
theorem pay_apply (v : FVec Ideal S64x300 .f32) (j : Fin 64) (k : Fin 300) :
    (k0_pay2 v (ix2 j k) : EReal) = clip (fun k => v (ix2 j k)) k := by
  have he : (Named.named κ "eps2" 0x179ABE15#32 : Ideal .f32) = floorSq :=
    IdealRules.named_const.ideal_named_scalar _ _ _ _ rfl
  unfold clip scale
  rw [← sqrt_max]
  pointwise [k0_pay2, he]

/-- The tile at row `j`. -/
theorem tile_apply (x : Fin 64 → Vec Ideal S1x1x300 .f32) (j : Fin 64) (k : Fin 300) :
    (Gather.tile x (ix2 j k) : EReal) = clip (fun k => x j (ix3 0 0 k)) k := by
  rw [tile_eq, pay_apply]
  exact congrArg (clip · k) (funext fun k => stack_apply x j k)

end Cert.Value

end
-- ==== Proof.Value.Rows.lean ====
/-
The rows that the gathering call fetches, and the array it leaves.
-/
module

public import proofs.«01_k».proof.Proof.Exact.Run
public import proofs.«01_k».proof.Proof.Exact.Table
public import proofs.«01_k».proof.Proof.Value.Tile

@[expose] public section

set_option maxRecDepth 16384

noncomputable section

namespace Cert.Value

open Idealize.ShloMosaic Idealize.ShloMosaic.TcCoe Cert.KernelIdeal Cert.KernelIdeal.Gen
open Cert.KernelIdeal.Gather (tbl cfgT rowBlk)

variable (m : (ℓ : Loc nD τ sig) → Buf (Elt Ideal) ℓ) (hO : Gather.Ok m)

/-- The number of the block that window `j` fetches at the grid's point `i`. -/
def num (i : grid0.Coords) (j : Fin 64) : Fin 3 → ℕ :=
  ![(tbl m 0 ((Rect.unit (s := S1024) (k0_off1 i (BitVec.ofNat 32 j.val)) S1.size (k0_off1_inb i j)).emb (Shape.Idx.first numel1_S1.symm.le)) : BitVec 32).toNat, 0, 0]

/-- It is the token at place `64 i + j`. -/
theorem num_eq (i : grid0.Coords) (j : Fin 64) : num m i j = ![(tbl m 0 (Table.place i j) : BitVec 32).toNat, 0, 0] := by
  unfold num
  rw [Table.emb_eq]

variable (hT : ∀ x : S1024.Idx, (tbl m 0 x : BitVec 32).toNat < 100000)
include hT

/-- A block whose number is a token lies inside the array. -/
theorem num_in (i : grid0.Coords) (j : Fin 64) (a : Fin 3) :
    num m i j a * S1x1x300.size a + S1x1x300.size a ≤ S100000x1x300.size a := by
  rw [num_eq]
  have := hT (Table.place i j)
  match a with
  | ⟨0, _⟩ => show (tbl m 0 (Table.place i j) : BitVec 32).toNat * 1 + 1 ≤ 100000; omega
  | ⟨1, _⟩ => show 0 * 1 + 1 ≤ 1; omega
  | ⟨2, _⟩ => show 0 * 300 + 300 ≤ 300; omega

/-- What window `j` fetches is the block of that number. -/
theorem rowBlk_eq (c : Dev nD) (t : Fin (cfgT m hO).N) (j : Fin 64) :
    rowBlk m hO c t j = fun y => V1 m c main_v0 ((Rect.unit (s := S100000x1x300)
      (fun a => num m ((cfgT m hO).grid.coords t) j a * S1x1x300.size a) S1x1x300.size (num_in m hT _ j)).emb y) := by
  fin_cases j <;> rfl

/-- Row `j` fetched at point `t` is the table's row that the token at place `64 t + j` names. -/
theorem rowBlk_apply (c : Dev nD) (t : Fin (cfgT m hO).N) (j : Fin 64) (y : S1x1x300.Idx) :
    rowBlk m hO c t j y = V1 m c main_v0 (ix3 ⟨(tbl m 0 (Table.place ((cfgT m hO).grid.coords t) j) : BitVec 32).toNat, hT _⟩ 0 (y 2)) := by
  rw [rowBlk_eq m hO hT]
  refine congrArg (V1 m c main_v0) (funext fun a => Fin.ext ?_)
  rw [Rect.emb_apply]
  show num m ((cfgT m hO).grid.coords t) j a * S1x1x300.size a + 1 * (y a).val = _
  rw [num_eq]
  match a with
  | ⟨0, _⟩ =>
    have := (y 0).isLt
    change (y 0).val < 1 at this
    show (tbl m 0 _ : BitVec 32).toNat * 1 + 1 * (y 0).val = (tbl m 0 _ : BitVec 32).toNat
    omega
  | ⟨1, _⟩ =>
    have := (y 1).isLt
    change (y 1).val < 1 at this
    show 0 * 1 + 1 * (y 1).val = 0
    omega
  | ⟨2, _⟩ =>
    show 0 * 300 + 1 * (y 2).val = (y 2).val
    omega

end Cert.Value

end
-- ==== Proof.Value.Embeds.lean ====
/-
What the gathering call leaves in its result: every token's row of the table, clipped to length one.
-/
module

public import proofs.«01_k».proof.Proof.Value.Rows
public import Idealize.ShloMosaic.Lib.Claim

@[expose] public section

set_option maxRecDepth 16384

noncomputable section

namespace Cert.Value

open Idealize.ShloMosaic Idealize.ShloMosaic.TcCoe Cert.KernelIdeal Cert.KernelIdeal.Gen
open Cert.KernelIdeal.Gather (tbl cfgT rowBlk)

variable (m : (ℓ : Loc nD τ sig) → Buf (Elt Ideal) ℓ) (hO : Gather.Ok m)

/-- The tokens, as launched. -/
abbrev tokens (c : Dev nD) : S1024.Idx → BitVec 32 := m ((c : Thread nD τ).loc main_arg0)
/-- The table of embeddings, as launched. -/
abbrev table (c : Dev nD) : S100000x300.Idx → EReal := m ((c : Thread nD τ).loc main_arg1)

/-- The array the rows are fetched from is the table of embeddings with a unit axis in between. -/
theorem table3 (c : Dev nD) (n : Fin 100000) (k : Fin 300) : V1 m c main_v0 (ix3 n 0 k) = table m c (ix2 n k) := by
  have h : V1 m c main_v0 = shapeCast S100000x1x300 (table m c) shapeCasts_S100000x300_S100000x1x300 := by
    unfold_abbrev_sides
    after_results
    rfl
  rw [h]
  pointwise

/-- The clipped embeddings of the tokens. -/
def embeds (c : Dev nD) : S1024x300.Idx → EReal := fun i => clip (row (table m c) (tokens m c (ix1 (i 0)))) (i 1)

/-- The result's window is written back at every point. -/
theorem flush (t : Fin (cfgT m hO).N) : ((cfgT m hO).win 64).flush t = true :=
  (Pipeline.Window.flush_reads ((cfgT m hO).win 64) rfl 0 (show 1 < grid0.bound 0 by decide) (show grid0.fixedAfter reads0_64 0 = true by decide)
    (Pipeline.Window.sep_of_coord cc0_transform_64 0 0 (fun _ => rfl) (by decide)) (P := 1) (m := 0) (show grid0.stride 0 = 1 by decide) rfl t).mpr (Nat.mod_one _)

/-- A point's coordinate is its number. -/
theorem coord (t : Fin grid0.N) : (grid0.coords t 0).val = t.val := by
  have ht : t.val < 16 := t.isLt
  rw [Pipeline.Grid.coords_val t 0 (S := 1) (B := 16) (by decide) rfl]
  omega

/-- The place in the result of element `(j, k)` of the block at point `t`. -/
def spot (t : Fin (cfgT m hO).N) (j : Fin 64) (k : Fin 300) : S1024x300.Idx :=
  (((cfgT m hO).win 64).blk t).view.emb (ix2 j k : S64x300.Idx)

/-- The result's block at point `t` starts at row `64 t`. -/
theorem spot_row (t : Fin (cfgT m hO).N) (j : Fin 64) (k : Fin 300) :
    (spot m hO t j k 0).val = 64 * (grid0.coords t 0).val + j.val := by
  have h : (BitVec.ofNat 32 (grid0.coords t 0).val).toNat = (grid0.coords t 0).val := by
    rw [coord, BitVec.toNat_ofNat]
    have ht : t.val < 16 := t.isLt
    omega
  refine (Rect.emb_apply _ _ _).trans ?_
  show (BitVec.ofNat 32 (grid0.coords t 0).val).toNat * 64 + 1 * j.val = _
  rw [h]
  omega

/-- The result's block has whole rows. -/
theorem spot_col (t : Fin (cfgT m hO).N) (j : Fin 64) (k : Fin 300) : spot m hO t j k 1 = k := by
  refine Fin.ext ((Rect.emb_apply _ _ _).trans ?_)
  show 0 * 300 + 1 * k.val = _
  omega

/-- Every element of the result is in the block of some point. -/
theorem cover (i : S1024x300.Idx) : ∃ t : Fin (cfgT m hO).N, ((cfgT m hO).win 64).flush t = true ∧ i ∈ (((cfgT m hO).win 64).blk t).view.set := by
  have h0 : (i 0).val < 1024 := (i 0).isLt
  refine ⟨⟨(i 0).val / 64, show (i 0).val / 64 < 16 by omega⟩, flush m hO _, ?_⟩
  generalize ht : (⟨(i 0).val / 64, show (i 0).val / 64 < 16 by omega⟩ : Fin (cfgT m hO).N) = t
  have hv : (grid0.coords t 0).val = (i 0).val / 64 := by rw [coord, ← ht]
  have e : spot m hO t ⟨(i 0).val % 64, by omega⟩ (i 1) = i := by
    funext a
    match a with
    | ⟨0, _⟩ => refine Fin.ext ((spot_row m hO t _ _).trans ?_); rw [hv]; show 64 * ((i 0).val / 64) + (i 0).val % 64 = (i 0).val; omega
    | ⟨1, _⟩ => exact spot_col m hO t _ _
  rw [← e]
  exact View.emb_mem_set _ _

variable (hT : ∀ x : S1024.Idx, (tokens m 0 x : BitVec 32).toNat < 100000)
include hT

/-- The tile left at point `t` is the clipped embeddings of its sixty-four tokens. -/
theorem tile_left (c : Dev nD) (t : Fin (cfgT m hO).N) :
    (Gather.dat m hO c).flushed (64 : Fin 65) t = (((cfgT m hO).win 64).blk t).view.read (Elt Ideal) (embeds m c) := by
  obtain rfl : c = 0 := Subsingleton.elim _ _
  have hT' : ∀ x : S1024.Idx, (tbl m 0 x : BitVec 32).toNat < 100000 := fun x => by rw [Table.tbl_eq]; exact hT x
  refine funext fun y : S64x300.Idx => ?_
  obtain ⟨j, k, rfl⟩ : ∃ (j : Fin 64) (k : Fin 300), y = ix2 j k := ⟨y 0, y 1, by pointwise⟩
  refine (congrFun (Gather.after_out m hO 0 t) (ix2 j k : S64x300.Idx)).trans ?_
  refine (tile_apply _ j k).trans ?_
  show _ = embeds m 0 (spot m hO t j k)
  unfold embeds
  rw [spot_col]
  refine congrArg (clip · k) (funext fun l => ?_)
  refine (rowBlk_apply m hO hT' 0 t j (ix3 0 0 l)).trans ?_
  refine (table3 m 0 _ _).trans ?_
  unfold row
  have hp : Table.place (grid0.coords t) j = ix1 (spot m hO t j k 0) := by
    funext a
    match a with
    | ⟨0, _⟩ => exact Fin.ext (spot_row m hO t j k).symm
  have hn : (tbl m 0 (Table.place (grid0.coords t) j) : BitVec 32) = tokens m 0 (ix1 (spot m hO t j k 0)) := by
    rw [Table.tbl_eq, hp]
    rfl
  refine congrArg (table m 0) (congrArg (ix2 · l) (Fin.ext ?_))
  refine (congrArg BitVec.toNat hn).trans ?_
  have := hT (ix1 (spot m hO t j k 0))
  show _ = min _ 99999
  omega

/-- The gathering call's result. -/
theorem mid_embeds (c : Dev nD) : Run.mid m hO c (Proc.devRef .tc main_v1) = embeds m c :=
  (Run.mid_arr m hO c (64 : Fin 65)).symm.trans ((Gather.dat m hO c).arrAt_eq_of_cover (64 : Fin 65) (embeds m c) (fun t _ => tile_left m hO hT c t) (cover m hO))

end Cert.Value

end
-- ==== Proof.Value.Product.lean ====
module

public import proofs.«01_k».proof.Proof.Value.Embeds

/-! # The projecting call's result

At every point the body leaves in the result's block the product of the rows with the weights' block, plus the bias's;
the columns past the end of the array are not written back, and no other column depends on what the buffers hold past
the end. So the array ends as the product of the rows with all of the weights, plus the bias. -/

@[expose] public section

set_option maxRecDepth 16384

noncomputable section

namespace Cert.Value

open Idealize.ShloMosaic Idealize.ShloMosaic.TcCoe Cert.KernelIdeal Cert.KernelIdeal.Gen

/-- One element of what the body computes: a row times a row of the weights, plus the bias. -/
theorem pay1_apply (x : Vec Ideal S1024x300 .bf16) (w : Vec Ideal S2048x300 .f32) (b : Vec Ideal S2048 .f32) (r : Fin 1024) (v : Fin 2048) :
    (k1_pay1 x w b (ix2 r v) : EReal) = (∑ k : Fin 300, x (ix2 r k) * w (ix2 v k)) + b (ix1 v) := by
  pointwise [k1_pay1, dot_S1024x300_S2048x300_S1024x2048_1_1_0_0_n_n]

/-- The rows of the weights' block inside the array. -/
theorem inside_weights : ∀ t : Fin grid1.N, win1_1.xsize (grid1.coords t) 0 = min 2048 (100000 - 2048 * t.val) := by decide
/-- The weights' block has whole rows. -/
theorem inside_weights_row : ∀ t : Fin grid1.N, win1_1.xsize (grid1.coords t) 1 = 300 := by decide
/-- The bias's entries inside the array. -/
theorem inside_bias : ∀ t : Fin grid1.N, win1_2.xsize (grid1.coords t) 0 = min 2048 (100000 - 2048 * t.val) := by decide
/-- The result's block has all the rows. -/
theorem inside_result_row : ∀ t : Fin grid1.N, win1_3.xsize (grid1.coords t) 0 = 1024 := by decide
/-- The columns of the result's block inside the array. -/
theorem inside_result : ∀ t : Fin grid1.N, win1_3.xsize (grid1.coords t) 1 = min 2048 (100000 - 2048 * t.val) := by decide

/-- A point's coordinate is its number. -/
theorem coord1 (t : Fin grid1.N) : (BitVec.ofNat 32 (grid1.coords t 0).val).toNat = t.val := by
  have ht : t.val < 49 := t.isLt
  rw [Pipeline.Grid.coords_val t 0 (S := 1) (B := 49) (by decide) rfl, BitVec.toNat_ofNat]
  omega

variable (V : Dev nD → Valuation τ sig (Elt Ideal)) (c : Dev nD)

/-- The state's rows, -/
abbrev rowsOf : S1024x300.Idx → EReal := V c main_v1
/-- weights -/
abbrev weightsOf : S100000x300.Idx → EReal := V c main_arg2
/-- and bias. -/
abbrev biasOf : S100000.Idx → EReal := V c main_arg3

/-- The product of the rows with the weights, plus the bias, of a state's arrays. -/
def product : S1024x100000.Idx → EReal := fun i =>
  (∑ k : Fin 300, rowsOf V c (ix2 (i 0) k) * weightsOf V c (ix2 (i 1) k))
    + biasOf V c (ix1 (i 1))

/-- The rows' buffer holds the rows. -/
theorem rows_apply (t : Fin cfg1.N) (r : Fin 1024) (k : Fin 300) :
    (Proj.rows V c t (ix2 r k) : EReal) = rowsOf V c (ix2 r k) := by
  show rowsOf V c (((cfg1.win 0).blk t).view.emb (ix2 r k)) = _
  refine congrArg (rowsOf V c) (funext fun a => ?_)
  match a with
  | ⟨0, _⟩ => refine Fin.ext ((Rect.emb_apply _ _ _).trans ?_); show 0 * 1024 + 1 * r.val = _; show _ = r.val; omega
  | ⟨1, _⟩ => refine Fin.ext ((Rect.emb_apply _ _ _).trans ?_); show 0 * 300 + 1 * k.val = _; show _ = k.val; omega

/-- A row of the weights' buffer that is inside the array is the array's. -/
theorem weights_apply (t : Fin cfg1.N) (d : S2048x300.Idx → EReal) (v : Fin 2048) (k : Fin 300) (h : 2048 * t.val + v.val < 100000) :
    ((cfg1.win 1).fill (cfg1.grid.coords t) d (Proj.part V c 1 t) (ix2 v k) : EReal)
      = weightsOf V c (ix2 ⟨2048 * t.val + v.val, h⟩ k) := by
  have hm : (cfg1.win 1).moved (cfg1.grid.coords t) (ix2 v k) = true := by
    refine ((cfg1.win 1).moved_iff _ _).mpr fun a => ?_
    match a with
    | ⟨0, _⟩ => refine lt_of_lt_of_eq ?_ (inside_weights t).symm; show v.val < _; omega
    | ⟨1, _⟩ => exact lt_of_lt_of_eq k.isLt (inside_weights_row t).symm
  unfold Pipeline.Window.fill
  rw [dif_pos hm]
  refine congrArg (weightsOf V c) (funext fun a => ?_)
  match a with
  | ⟨0, _⟩ =>
    refine Fin.ext ((Rect.emb_apply _ _ _).trans ?_)
    show (BitVec.ofNat 32 (grid1.coords t 0).val).toNat * 2048 + 1 * v.val = 2048 * t.val + v.val
    rw [coord1]; omega
  | ⟨1, _⟩ => refine Fin.ext ((Rect.emb_apply _ _ _).trans ?_); show 0 * 300 + 1 * k.val = k.val; omega

/-- An entry of the bias's buffer that is inside the array is the array's. -/
theorem bias_apply (t : Fin cfg1.N) (d : S2048.Idx → EReal) (v : Fin 2048) (h : 2048 * t.val + v.val < 100000) :
    ((cfg1.win 2).fill (cfg1.grid.coords t) d (Proj.part V c 2 t) (ix1 v) : EReal)
      = biasOf V c (ix1 ⟨2048 * t.val + v.val, h⟩) := by
  have hm : (cfg1.win 2).moved (cfg1.grid.coords t) (ix1 v) = true := by
    refine ((cfg1.win 2).moved_iff _ _).mpr fun a => ?_
    match a with
    | ⟨0, _⟩ => refine lt_of_lt_of_eq ?_ (inside_bias t).symm; show v.val < _; omega
  unfold Pipeline.Window.fill
  rw [dif_pos hm]
  refine congrArg (biasOf V c) (funext fun a => ?_)
  match a with
  | ⟨0, _⟩ =>
    refine Fin.ext ((Rect.emb_apply _ _ _).trans ?_)
    show (BitVec.ofNat 32 (grid1.coords t 0).val).toNat * 2048 + 1 * v.val = 2048 * t.val + v.val
    rw [coord1]; omega

/-- The place in the result of an element of the block written back at point `t`. -/
def spot1 (t : Fin cfg1.N) (j : ((cfg1.win 3).xblock (cfg1.grid.coords t)).Idx) : S1024x100000.Idx :=
  ((cfg1.win 3).blk t).view.emb j

/-- It is in the element's row, -/
theorem spot1_row (t : Fin cfg1.N) (j : ((cfg1.win 3).xblock (cfg1.grid.coords t)).Idx) :
    (spot1 t j 0).val = (j (0 : Fin 2)).val := by
  refine (Rect.emb_apply _ _ _).trans ?_
  show 0 * 1024 + 1 * (j (0 : Fin 2)).val = _
  omega

/-- in the element's column past `2048 t`. -/
theorem spot1_col (t : Fin cfg1.N) (j : ((cfg1.win 3).xblock (cfg1.grid.coords t)).Idx) :
    (spot1 t j 1).val = 2048 * t.val + (j (1 : Fin 2)).val := by
  refine (Rect.emb_apply _ _ _).trans ?_
  show (BitVec.ofNat 32 (grid1.coords t 0).val).toNat * 2048 + 1 * (j (1 : Fin 2)).val = _
  rw [coord1]; omega

/-- What is written back at point `t` is the product's block, whatever the buffers held past the end. -/
theorem written (t : Fin cfg1.N) (X : (cfg1.win 3).block.Idx → Elt Ideal (cfg1.win 3).elt) (h : (Proj.rdat V c).Leaves 3 t X) :
    (cfg1.win 3).cut (cfg1.grid.coords t) X = ((cfg1.win 3).blk t).view.read (Elt Ideal) (product V c) := by
  obtain ⟨Y, -, dw, db, rfl⟩ := h
  funext j
  show (k1_pay1 (Proj.rows V c t) ((cfg1.win 1).fill (cfg1.grid.coords t) dw (Proj.part V c 1 t))
    ((cfg1.win 2).fill (cfg1.grid.coords t) db (Proj.part V c 2 t)) ((cfg1.win 3).xinj (cfg1.grid.coords t) j) : EReal) = product V c (spot1 t j)
  have h0 : (j (0 : Fin 2)).val < 1024 := lt_of_lt_of_eq (j (0 : Fin 2)).isLt (inside_result_row t)
  have h1 : (j (1 : Fin 2)).val < min 2048 (100000 - 2048 * t.val) := lt_of_lt_of_eq (j (1 : Fin 2)).isLt (inside_result t)
  have hj : ((cfg1.win 3).xinj (cfg1.grid.coords t) j : S1024x2048.Idx) = ix2 ⟨(j (0 : Fin 2)).val, h0⟩ ⟨(j (1 : Fin 2)).val, by omega⟩ := by
    funext a
    match a with
    | ⟨0, _⟩ => rfl
    | ⟨1, _⟩ => rfl
  refine (congrArg _ hj).trans ((pay1_apply _ _ _ _ _).trans ?_)
  have hv : 2048 * t.val + (j (1 : Fin 2)).val < 100000 := by omega
  rw [bias_apply V c t db _ hv]
  have hs : spot1 t j = ix2 ⟨(j (0 : Fin 2)).val, h0⟩ ⟨2048 * t.val + (j (1 : Fin 2)).val, hv⟩ := by
    funext a
    match a with
    | ⟨0, _⟩ => exact Fin.ext (spot1_row t j)
    | ⟨1, _⟩ => exact Fin.ext (spot1_col t j)
  rw [hs]
  unfold product
  refine congrArg (· + (_ : EReal)) (Finset.sum_congr rfl fun k _ => ?_)
  rw [rows_apply, weights_apply V c t dw _ k hv]
  rfl

/-- Every element in a column from `2048 t` on, before `2048 (t + 1)`, is written back at point `t`. -/
theorem cover1 (t : Fin cfg1.N) (i : S1024x100000.Idx) (h : 2048 * t.val ≤ (i 1).val) (h' : (i 1).val < 2048 * (t.val + 1)) :
    i ∈ (((cfg1.win 3).blk t).view.setOn Finset.univ : Finset S1024x100000.Idx) := by
  have hi : (i 1).val < 100000 := (i 1).isLt
  have e : spot1 t (fun a => ⟨match a with | ⟨0, _⟩ => (i 0).val | ⟨1, _⟩ => (i 1).val - 2048 * t.val, match a with
      | ⟨0, _⟩ => lt_of_lt_of_eq (i 0).isLt (inside_result_row t).symm
      | ⟨1, _⟩ => lt_of_lt_of_eq (b := min 2048 (100000 - 2048 * t.val)) (show (i 1).val - 2048 * t.val < min 2048 (100000 - 2048 * t.val) by omega) (inside_result t).symm⟩) = i := by
    funext a
    match a with
    | ⟨0, _⟩ => exact Fin.ext (spot1_row t _)
    | ⟨1, _⟩ => refine Fin.ext ((spot1_col t _).trans ?_); show 2048 * t.val + ((i 1).val - 2048 * t.val) = (i 1).val; omega
  rw [← e]
  exact Finset.mem_map_of_mem _ (Finset.mem_univ _)

/-- After the points below `n` the result's first `2048 n` columns are the product's. -/
theorem columns (n : ℕ) (hn : n ≤ 49) (G : S1024x100000.Idx → EReal) (h : (Proj.rdat V c).ArrAt 3 n G) (i : S1024x100000.Idx)
    (hi : (i 1).val < 2048 * n) : G i = product V c i := by
  induction n generalizing G with
  | zero => omega
  | succ t ih =>
    have ht : t < cfg1.N := by show t < 49; omega
    have h' : (if (cfg1.win 3).flush ⟨t, ht⟩ then (Proj.rdat V c).ArrStep 3 ⟨t, ht⟩ ((Proj.rdat V c).ArrAt 3 t) else (Proj.rdat V c).ArrAt 3 t) G := by
      have := h
      unfold Pipeline.RDat.ArrAt at this
      rw [dif_pos ht] at this
      exact this
    rw [if_pos (flush1_3 ⟨t, ht⟩)] at h'
    obtain ⟨G₀, X, hG₀, hX, rfl⟩ := h'
    rw [written V c ⟨t, ht⟩ X hX, View.write_read_eq_piecewise]
    by_cases hm : i ∈ (((cfg1.win 3).blk ⟨t, ht⟩).view.setOn Finset.univ : Finset S1024x100000.Idx)
    · exact Finset.piecewise_eq_of_mem _ _ _ hm
    · refine (Finset.piecewise_eq_of_notMem _ _ _ hm).trans (ih (by omega) G₀ hG₀ ?_)
      by_contra hlt
      exact hm (cover1 ⟨t, ht⟩ i (by show 2048 * t ≤ _; omega) hi)

end Cert.Value

end
-- ==== Proof.Value.Reference.lean ====
module

public import proofs.«01_k».proof.Proof.Value.Scale
public import proofs.«01_k».proof.Proof.Gen.ReferenceIdeal.Run
public import Idealize.ShloMosaic.Lib.Pointwise
public import Idealize.ShloMosaic.Lib.Pointwise.IndexBridge
public import Idealize.ShloMosaic.Lib.Routing.Ops
public import Idealize.ShloMosaic.Lib.ReduceAll
public import Idealize.ShloMosaic.Lib.WordCmp

/-! # The reference's result

The reference looks up the embeddings, clips them, multiplies by the weights and adds the bias. Its look-up wraps
negative tokens and masks the ones past the end of the table; a token in range is neither. -/

@[expose] public section

set_option maxRecDepth 16384

noncomputable section

namespace Cert.Value.Ref

open Idealize.ShloMosaic Idealize.ShloMosaic.TcCoe Cert.ReferenceIdeal Cert.ReferenceIdeal.Gen Cert.ReferenceIdeal.Value

variable (I : IVec S1024 32) (T W : FVec Ideal S100000x300 .f32) (B : FVec Ideal S100000 .f32)

/-- The tokens, negative ones wrapped. -/
def wrapped : IVec S1024 32 :=
  select (cmpi .slt I (broadcastInDim S1024 ![] bcast_S_S1024 (constantI S_ 32 0#32))) (addi I (broadcastInDim S1024 ![] bcast_S_S1024 (constantI S_ 32 100000#32))) I

/-- The wrapped tokens as a column. -/
def column : IVec S1024x1 32 := broadcastInDim S1024x1 ![0] bcast_S1024_S1024x1_0 (wrapped I)

/-- Whether a wrapped token is in range. -/
def inside : IVec S1024x1 1 :=
  andi (cmpi .sge (column I) (broadcastInDim S1024x1 ![] bcast_S_S1024x1 (constantI S_ 32 0#32)))
    (cmpi .sle (column I) (broadcastInDim S1024x1 ![0, 1] bcast_S1x1_S1024x1_0_1 (broadcastInDim S1x1 ![1] bcast_S1_S1x1_1 (constantI S1 32 99999#32))))

/-- The rows looked up, the ones out of range masked. -/
def looked : FVec Ideal S1024x300 .f32 :=
  select (broadcastInDim S1024x300 ![0] bcast_S1024_S1024x300_0 (Host.reduce IntOp.andi (inside I) (constantI S_ 1 1#1) reducesTo_S1024x1_S1024_d1 h_S_))
    (Host.gather gather_S100000x300_S1024x1_S1024x300_1_0_n_n_0_1_1300 T (column I)) (broadcastInDim S1024x300 ![] bcast_S_S1024x300 (constant S_ .f32 0x7FC00000#32))

/-- The factors that clip the rows `E`. -/
def factor (E : FVec Ideal S1024x300 .f32) : FVec Ideal S1024x1 .f32 :=
  minimumf (broadcastInDim S1024x1 ![] bcast_S_S1024x1 (constant S_ .f32 0x3F800000#32))
    (Host.divf (broadcastInDim S1024x1 ![] bcast_S_S1024x1 (constant S_ .f32 0x3F800000#32))
      (maximumf (Host.sqrt (broadcastInDim S1024x1 ![0] bcast_S1024_S1024x1_0 (Host.reduceAdd (mulf E E) (constant S_ .f32 0x00000000#32) reducesTo_S1024x300_S1024_d1 h_S_)))
        (broadcastInDim S1024x1 ![] bcast_S_S1024x1 (constant S_ .f32 0x2B8CBCCC#32))))

/-- The rows `E`, clipped. -/
def clipped (E : FVec Ideal S1024x300 .f32) : FVec Ideal S1024x300 .f32 :=
  mulf E (broadcastInDim S1024x300 ![0, 1] bcast_S1024x1_S1024x300_0_1 (factor E))

/-- The result in these terms. -/
def total : FVec Ideal S1024x100000 .f32 :=
  addf (Host.dotGeneral dot_S1024x300_S300x100000_S1024x100000_1_0_0_1_n_n none (clipped (looked I T)) (transpose S300x100000 [1, 0] W transposes_S100000x300_S300x100000_1_0))
    (broadcastInDim S1024x100000 ![0, 1] bcast_S1x100000_S1024x100000_0_1 (broadcastInDim S1x100000 ![1] bcast_S100000_S1x100000_1 B))

variable (hI : ∀ x : S1024.Idx, (I x).toNat < 100000)
include hI

/-- No token in range is wrapped. -/
theorem wrapped_eq (x : S1024.Idx) : wrapped I x = I x := by
  have hx := hI x
  have h : IntOp.cmpi .slt (I x) 0#32 = 0#1 := by
    rw [WordCmp.cmpi_slt_of_lt (by show _ < 2147483648; omega) (by decide)]
    rfl
  show (if IntOp.cmpi .slt (I x) 0#32 = 1#1 then _ else I x) = I x
  rw [h, if_neg (by decide)]

/-- The column holds the tokens. -/
theorem column_eq (j : Fin 1024) : column I (ix2 j 0) = I (ix1 j) := by
  rw [← wrapped_eq I hI]
  pointwise [column]

/-- Every token in range passes the test. -/
theorem inside_eq (x : S1024x1.Idx) : inside I x = 1#1 := by
  obtain ⟨j, rfl⟩ : ∃ j : Fin 1024, x = ix2 j 0 := ⟨x 0, funext fun a => match a with | ⟨0, _⟩ => rfl | ⟨1, _⟩ => Subsingleton.elim (α := Fin 1) _ _⟩
  have hx := hI (ix1 j)
  have h0 : IntOp.cmpi .sge (I (ix1 j)) 0#32 = 1#1 := by
    rw [WordCmp.cmpi_sge_of_lt (by show _ < 2147483648; omega) (by decide)]
    rfl
  have h1 : IntOp.cmpi .sle (I (ix1 j)) 99999#32 = 1#1 := by
    rw [WordCmp.cmpi_sle_of_lt (by show _ < 2147483648; omega) (by decide), decide_eq_true (show (I (ix1 j)).toNat ≤ (99999#32).toNat from Nat.le_of_lt_succ hx)]
    rfl
  show IntOp.andi (IntOp.cmpi .sge (column I (ix2 j 0)) 0#32) (IntOp.cmpi .sle (column I (ix2 j 0)) 99999#32) = 1#1
  rw [column_eq I hI, h0, h1]
  rfl

/-- The row looked up is the one the token names. -/
theorem looked_apply (j : Fin 1024) (k : Fin 300) : (looked I T (ix2 j k) : EReal) = row T (I (ix1 j)) k := by
  have hx := hI (ix1 j)
  have hb : (broadcastInDim S1024x300 ![0] bcast_S1024_S1024x300_0
      (Host.reduce IntOp.andi (inside I) (constantI S_ 1 1#1) reducesTo_S1024x1_S1024_d1 h_S_)) (ix2 j k) = 1#1 :=
    Host.reduce_andi_one _ _ _ _ _ rfl (inside_eq I hI)
  unfold looked
  show (if _ = 1#1 then Host.gather gather_S100000x300_S1024x1_S1024x300_1_0_n_n_0_1_1300 T (column I) (ix2 j k) else _) = _
  rw [hb, if_pos rfl]
  refine (Routing.gather_row gather_S100000x300_S1024x1_S1024x300_1_0_n_n_0_1_1300 rfl rfl rfl rfl rfl T (column I) j k
    ⟨(I (ix1 j)).toNat, hx⟩ ((column_eq I hI j).trans ?_) (by decide)).trans ?_
  · simp
  · unfold row
    refine congrArg T (congrArg (ix2 · k) (Fin.ext ?_))
    show (I (ix1 j)).toNat = min (I (ix1 j)).toNat 99999
    omega

omit hI in
/-- Clipping reads as on the extended reals. -/
theorem clipped_apply (E : FVec Ideal S1024x300 .f32) (j : Fin 1024) (k : Fin 300) :
    (clipped E (ix2 j k) : EReal) = clip (fun l => E (ix2 j l)) k := by
  pointwise [clipped, factor]
  rw [floor_word]
  rfl

omit hI in
/-- An element of the result: a clipped row times a row of the weights, plus the bias. -/
theorem total_apply (j : Fin 1024) (v : Fin 100000) :
    (total I T W B (ix2 j v) : EReal) = (∑ k : Fin 300, clipped (looked I T) (ix2 j k) * W (ix2 v k)) + B (ix1 v) := by
  pointwise [total, dot_S1024x300_S300x100000_S1024x100000_1_0_0_1_n_n]

/-- From tokens in range the reference's result is the clipped embeddings times the weights, plus the bias. -/
theorem total_eq : total I T W B = result I T W B := by
  funext i
  obtain ⟨j, v, rfl⟩ : ∃ (j : Fin 1024) (v : Fin 100000), i = ix2 j v := ⟨i 0, i 1, by pointwise⟩
  refine (total_apply I T W B j v).trans ?_
  unfold result
  refine congrArg (· + (_ : EReal)) (Finset.sum_congr rfl fun k _ => ?_)
  rw [clipped_apply, funext fun l => looked_apply I T hI j l]
  rfl

omit hI in
/-- The reference's composed term is that result of the arguments as launched. -/
theorem result_eq (m : (ℓ : Loc nD τ sig) → Buf (Elt Ideal) ℓ) (c : Dev nD) :
    res_main_v14 m c = total (m ((c.tc : Thread nD τ).loc main_arg0)) (m ((c.tc : Thread nD τ).loc main_arg1))
      (m ((c.tc : Thread nD τ).loc main_arg2)) (m ((c.tc : Thread nD τ).loc main_arg3)) := rfl

end Cert.Value.Ref

end
-- ==== Proof.Value.Equal.lean ====
module

public import proofs.«01_k».proof.Proof.Frames
public import proofs.«01_k».proof.Proof.Value.Product
public import proofs.«01_k».proof.Proof.Value.Reference

/-! # The idealized kernel computes what the reference computes -/

@[expose] public section

set_option maxRecDepth 16384

noncomputable section

namespace Cert.Value

open Idealize.ShloMosaic Idealize.ShloMosaic.TcCoe Idealize.SL.Sem
open Cert.KernelIdeal Cert.KernelIdeal.Gen

variable (m : (ℓ : Loc nD τ sig) → Buf (Elt Ideal) ℓ) (hO : Gather.Ok m)
variable (hT : ∀ x : S1024.Idx, (tokens m 0 x : BitVec 32).toNat < 100000)

include hT in
/-- What the kernel leaves in its result is the clipped embeddings times the weights, plus the bias. -/
theorem kernel_result (c : Dev nD) (s : MemSt nD τ sig (Elt Ideal)) (h : Run.Ends m hO c s) :
    s.mem ((c.tc : Thread nD τ).loc main_v2)
      = result (tokens m c) (table m c) (m ((c.tc : Thread nD τ).loc main_arg2)) (m ((c.tc : Thread nD τ).loc main_arg3)) := by
  refine funext fun i : S1024x100000.Idx => ?_
  have h1 : (i 1).val < 100000 := (i 1).isLt
  refine (columns (Run.mid m hO) c 49 le_rfl _ h.2 i (by omega)).trans ?_
  have h0 : rowsOf (Run.mid m hO) c = embeds m c := mid_embeds m hO hT c
  have h2 : weightsOf (Run.mid m hO) c = m ((c.tc : Thread nD τ).loc main_arg2) := Run.mid_arg m hO c main_arg2 (by simp)
  have h3 : biasOf (Run.mid m hO) c = m ((c.tc : Thread nD τ).loc main_arg3) := Run.mid_arg m hO c main_arg3 (by simp)
  unfold product
  rw [h0, h2, h3]
  rfl

/-- The idealized kernel and the reference, run from the same arguments, end with the same result. -/
theorem algebraic : algebraic_KernelIdeal_ReferenceIdeal (hKernelIdeal := KernelIdeal.Gen.facts)
    (hReferenceIdeal := ReferenceIdeal.Gen.facts) (hPre_in_vocab := Pre_in_vocab.Gen.facts) := by
  intro m g m' g' hp hargs
  have hO := Frames.ideal_ok m hp
  have hT : ∀ x : S1024.Idx, (tokens m 0 x : BitVec 32).toNat < 100000 := fun x => Table.in_range _ _ _ _ (hp 0) x
  refine ⟨fun c => result (tokens m c) (table m c) (m ((c.tc : Thread nD τ).loc main_arg2)) (m ((c.tc : Thread nD τ).loc main_arg3)), ?_, ?_⟩
  · exact (θ_run _ _ _).mono (fun _ e c => ⟨kernel_result m hO hT c _ (e.1 c),
      (e.1 c).1 _ (by simp), (e.1 c).1 _ (by simp), (e.1 c).1 _ (by simp), (e.1 c).1 _ (by simp)⟩) (Run.run m hO g)
  · refine (θ_run _ _ _).mono (fun _ e c => ?_) (ReferenceIdeal.Value.run (F := Ideal) m' g')
    obtain ⟨a0, a1, a2, a3⟩ := hargs c
    refine ⟨(e c).1.trans ?_, (e c).2⟩
    rw [Ref.result_eq, a0, a1, a2, a3]
    obtain rfl : c = 0 := Subsingleton.elim _ _
    exact Ref.total_eq _ _ _ _ hT

end Cert.Value

end
-- ==== Proof.lean ====
module

public import proofs.«01_k».proof.Defs
public import proofs.«01_k».proof.Proof.Frames
public import proofs.«01_k».proof.Proof.Value.Equal

@[expose] public section

noncomputable section

namespace Cert.Proof

/-- Every claim of this directory. -/
theorem claim : Cert.Claim :=
  ⟨Cert.Kernel.Gen.facts, Cert.KernelIdeal.Gen.facts, Cert.ReferenceIdeal.Gen.facts, Cert.Pre_in_vocab.Gen.facts,
    Frames.kernel, Frames.ideal, Frames.reference,
    fun m ρ _ => Frames.reference m ρ trivial, Frames.preserves, Value.algebraic⟩

end Cert.Proof

end
